-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 2048, 8, 64]⟩ (Layout.meshBlock [2, 2, 4] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 2048, 8, 64]⟩ (Layout.meshBlock [2, 2, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 2048, 8, 64]⟩ (Layout.meshBlock [2, 2, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 512, 8, 64]⟩ ⟨4, ![2, 2048, 8, 64]⟩ (Layout.meshBlock [2, 2, 4] ![[], [2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x8x64 : Shape := ⟨4, ![2, 512, 8, 64]⟩
abbrev S4x2x2x512x8x64 : Shape := ⟨6, ![4, 2, 2, 512, 8, 64]⟩
abbrev S3 : Shape := ⟨1, ![3]⟩
abbrev S1x1x2x512x8x64 : Shape := ⟨6, ![1, 1, 2, 512, 8, 64]⟩
abbrev S_ : Shape := ⟨0, ![]⟩
abbrev S1 : Shape := ⟨1, ![1]⟩
abbrev S1x2x2x512x8x64 : Shape := ⟨6, ![1, 2, 2, 512, 8, 64]⟩
abbrev S2x2x512x8x64 : Shape := ⟨5, ![2, 2, 512, 8, 64]⟩
abbrev S1x512x1x64 : Shape := ⟨4, ![1, 512, 1, 64]⟩
abbrev S512x64 : Shape := ⟨2, ![512, 64]⟩
abbrev S1x1x1x512x1x64 : Shape := ⟨6, ![1, 1, 1, 512, 1, 64]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x512x8x64, .f32⟩
  | .local _ .vmem, ⟨0, _⟩ => ⟨S2x512x8x64, .f32⟩
  | .local _ .vmem, ⟨1, _⟩ => ⟨S2x512x8x64, .f32⟩
  | .local _ .vmem, ⟨2, _⟩ => ⟨S2x512x8x64, .f32⟩
  | .local _ .vmem, ⟨3, _⟩ => ⟨S2x512x8x64, .f32⟩
  | .local _ .vmem, ⟨4, _⟩ => ⟨S4x2x2x512x8x64, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v42 : BitVec 32 := Scalar.muli v2 c8_i32_34
  let v43 : BitVec 32 := Scalar.addi c0_i32_35 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v44 : BitVec 32 := Scalar.muli v5 c4_i32_36
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_37 : BitVec 32 := 1#32
  let v46 : BitVec 32 := Scalar.muli v19 c1_i32_37
  let v47 : BitVec 32 := Scalar.addi v45 v46
  v47.toNat
def k0_dev2 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v48 : BitVec 32 := Scalar.muli v2 c8_i32_39
  let v49 : BitVec 32 := Scalar.addi c0_i32_40 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v50 : BitVec 32 := Scalar.muli v5 c4_i32_41
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_42 : BitVec 32 := 1#32
  let v52 : BitVec 32 := Scalar.muli v30 c1_i32_42
  let v53 : BitVec 32 := Scalar.addi v51 v52
  v53.toNat
def k0_dev3 (d0 : Dev nD) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v54 : BitVec 32 := Scalar.muli v2 c8_i32_48
  let v55 : BitVec 32 := Scalar.addi c0_i32_49 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v56 : BitVec 32 := Scalar.muli v5 c4_i32_50
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_51 : BitVec 32 := 1#32
  let v58 : BitVec 32 := Scalar.muli v30 c1_i32_51
  let v59 : BitVec 32 := Scalar.addi v57 v58
  v59.toNat
def k0_dev4 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_99 : BitVec 32 := 8#32
  let v86 : BitVec 32 := Scalar.muli v2 c8_i32_99
  let v87 : BitVec 32 := Scalar.addi c0_i32_100 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_101 : BitVec 32 := 4#32
  let v88 : BitVec 32 := Scalar.muli v5 c4_i32_101
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_102 : BitVec 32 := 1#32
  let v90 : BitVec 32 := Scalar.muli v30 c1_i32_102
  let v91 : BitVec 32 := Scalar.addi v89 v90
  v91.toNat
def k0_dev5 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v118 : BitVec 32 := Scalar.muli v2 c8_i32_149
  let v119 : BitVec 32 := Scalar.addi c0_i32_150 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v120 : BitVec 32 := Scalar.muli v5 c4_i32_151
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_152 : BitVec 32 := 1#32
  let v122 : BitVec 32 := Scalar.muli v30 c1_i32_152
  let v123 : BitVec 32 := Scalar.addi v121 v122
  v123.toNat
abbrev stage0_0 : Fin 1 → Memref sig .tc .vmem S2x512x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x8x2048x2048, .f32⟩
  | .hbm, ⟨4, _⟩ => ⟨S_, .f32⟩
  | .hbm, ⟨5, _⟩ => ⟨S2x8x2048x2048, .f32⟩
  | .hbm, ⟨6, _⟩ => ⟨S2x8x2048x2048, .f32⟩
  | .hbm, ⟨7, _⟩ => ⟨S_, .f32⟩
  | .hbm, ⟨8, _⟩ => ⟨S2x8x2048, .f32⟩
  | .hbm, ⟨9, _⟩ => ⟨S2x8x2048x1, .f32⟩
  | .hbm, ⟨10, _⟩ => ⟨S2x8x2048x2048, .f32⟩
  | .hbm, ⟨11, _⟩ => ⟨S2x8x2048x2048, .f32⟩
  | .hbm, ⟨12, _⟩ => ⟨S2x8x2048x2048, .f32⟩
  | .hbm, ⟨13, _⟩ => ⟨S_, .f32⟩
  | .hbm, ⟨14, _⟩ => ⟨S2x8x2048, .f32⟩
  | .hbm, ⟨15, _⟩ => ⟨S2x8x2048x1, .f32⟩
  | .hbm, ⟨16, _⟩ => ⟨S2x8x2048x2048, .f32⟩
  | .hbm, ⟨17, _⟩ => ⟨S2x8x2048x2048, .f32⟩
  | .hbm, ⟨18, _⟩ => ⟨S2x8x64x2048, .f32⟩
  | .hbm, ⟨19, _⟩ => ⟨S2x2048x8x64, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ring.lean ====
/-
The protocol of the ring kernel, written down.

Sixteen devices stand in four rings of four (the mesh axis `z`). `nxt c` is the device after `c` on its ring, `prv c` the
one before it. Each device holds a buffer of four slots; slot `j` will hold the block of keys and values of the device
`j` places back.

* The barrier semaphore of `c`: `prv c` adds one unit (handing over nothing), `nxt c` adds one unit and hands over its
  slots 1, 2, 3, at any contents, together with the fact that its three receive semaphores are still in their first round.
  `c` waits for the two units.
* Step `t` (of three): `c` copies its slot `t` into slot `t + 1` of `nxt c`. When the copy has been read, `c`'s send
  semaphore `t` gets the slot's credit and hands slot `t` back to `c` unchanged; when it has landed, `nxt c`'s receive
  semaphore `t` gets the credit and hands over slot `t + 1` of `nxt c`, holding what slot `t` of `c` holds.

`ringBuf c` is the whole buffer of `c` as it is at the end. Every slot is at all times held either at any contents
(before its landing) or at `ringBuf c` (after it), so the four slots join to the buffer at `ringBuf c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: one copy for the pipeline, one (two duty names) for the ring -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine at the start: any memory, every counter at zero. -/
def st₀ : MemSt nD τ sig (Elt F) := ⟨m, fun _ => 0, ρ⟩

/-! ## The ring -/

set_option backward.proofsInPublic true in
/-- The next device on `c`'s ring of four. -/
def nxt (c : Dev nD) : Dev nD := ⟨4 * (c.val / 4) + (c.val % 4 + 1) % 4, by have h : c.val < 16 := c.isLt; show _ < 16; omega⟩
set_option backward.proofsInPublic true in
/-- The device before `c` on its ring. -/
def prv (c : Dev nD) : Dev nD := ⟨4 * (c.val / 4) + (c.val % 4 + 3) % 4, by have h : c.val < 16 := c.isLt; show _ < 16; omega⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- The device numbers the kernel computes: the first signal goes to `prv c`, everything else to `nxt c`. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = nxt c := by revert c; decide +kernel

/-- The ring as a permutation of the devices. -/
def turn : Dev nD ≃ Dev nD := ⟨nxt, prv, prv_nxt, nxt_prv⟩

/-- The device `j` places back. -/
def back (c : Dev nD) (j : ℕ) : Dev nD := prv^[j] c

theorem back_zero (c : Dev nD) : back c 0 = c := rfl
/-- One step along the ring and one place further back is the same device. -/
theorem back_nxt (c : Dev nD) (j : ℕ) : back (nxt c) (j + 1) = back c j := by
  unfold back; rw [Function.iterate_succ_apply, prv_nxt]

/-! ## The slots and the semaphores -/

abbrev qM : Memref sig .tc .vmem S2x512x8x64 .f32 := Memref.whole cc0_stg0_0
abbrev kM : Memref sig .tc .vmem S2x512x8x64 .f32 := Memref.whole cc0_stg1_0
abbrev vM : Memref sig .tc .vmem S2x512x8x64 .f32 := Memref.whole cc0_stg2_0
abbrev oM : Memref sig .tc .vmem S2x512x8x64 .f32 := Memref.whole cc0_stg3_0
abbrev gM : Memref sig .tc .vmem S4x2x2x512x8x64 .f32 := Memref.whole cc0_scratch0

theorem inb_slot (j : Fin 4) : ∀ a, (![j.val, 0, 0, 0, 0, 0] : Fin 6 → Nat) a + S1x2x2x512x8x64.size a ≤ S4x2x2x512x8x64.size a := by
  revert j; decide

/-- The rectangle of slot `j`. -/
abbrev slotR (j : Fin 4) : Rect S4x2x2x512x8x64 := Rect.unit (s := S4x2x2x512x8x64) ![j.val, 0, 0, 0, 0, 0] S1x2x2x512x8x64.size (inb_slot j)

/-- Slot `j` of the buffer, as the copies address it. -/
abbrev slotM (j : Fin 4) : Memref sig .tc .vmem S2x2x512x8x64 .f32 :=
  (gM.slice (slotR j) (fun _ => rfl)).squeeze S2x2x512x8x64 squeezes_S1x2x2x512x8x64_S2x2x512x8x64

theorem inb_sem (t : Fin 3) : ∀ a, (![t.val] : Fin 1 → Nat) a + S1.size a ≤ S3.size a := by revert t; decide

abbrev barS : Sem sig := (SemArray.scalar (sig.barrier 0 rfl) : Sems sig S_).sem
abbrev sendS (t : Fin 3) : DmaSem sig := (((cc0_scratch1 : DmaSems sig S3).slice (Rect.unit (s := S3) ![t.val] S1.size (inb_sem t))).squeeze S_ squeezes_S1_S_).sem
abbrev recvS (t : Fin 3) : DmaSem sig := (((cc0_scratch2 : DmaSems sig S3).slice (Rect.unit (s := S3) ![t.val] S1.size (inb_sem t))).squeeze S_ squeezes_S1_S_).sem

abbrev barCell (c : Dev nD) : GSem nD τ sig := ((c : Thread nD τ), .reg barS)
abbrev sendCell (c : Dev nD) (t : Fin 3) : GSem nD τ sig := ((c : Thread nD τ), .dma (sendS t))
abbrev recvCell (c : Dev nD) (t : Fin 3) : GSem nD τ sig := ((c : Thread nD τ), .dma (recvS t))

/-- The kernel's own six semaphores, -/
abbrev osem : Fin 6 → SemLoc sig := fun
  | 0 => .dma (sendS 0) | 1 => .dma (sendS 1) | 2 => .dma (sendS 2)
  | 3 => .dma (recvS 0) | 4 => .dma (recvS 1) | 5 => .dma (recvS 2)
/-- and, with the barrier, the seven of the protocol. -/
abbrev csem : Fin 7 → SemLoc sig := fun
  | 0 => .reg barS
  | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

/-- The number of the send semaphore `t`, and of the receive semaphore `t`, among the seven. -/
abbrev sIx : Fin 3 → Fin 7 := fun | 0 => 1 | 1 => 2 | 2 => 3
abbrev rIx : Fin 3 → Fin 7 := fun | 0 => 4 | 1 => 5 | 2 => 6

theorem kcell_send (c : Dev nD) (t : Fin 3) : kcell (c, sIx t) = sendCell c t := by fin_cases t <;> rfl
theorem kcell_recv (c : Dev nD) (t : Fin 3) : kcell (c, rIx t) = recvCell c t := by fin_cases t <;> rfl

theorem send_ne_bar (t : Fin 3) : (SemLoc.dma (sendS t) : SemLoc sig) ≠ .reg barS := fun h => by cases h
theorem recv_ne_bar (t : Fin 3) : (SemLoc.dma (recvS t) : SemLoc sig) ≠ .reg barS := fun h => by cases h
theorem send_ne_recv (t u : Fin 3) : (SemLoc.dma (sendS t) : SemLoc sig) ≠ .dma (recvS u) := by revert t u; decide
theorem recv_inj (t u : Fin 3) : (SemLoc.dma (recvS t) : SemLoc sig) = .dma (recvS u) → t = u := by revert t u; decide
theorem send_inj (t u : Fin 3) : (SemLoc.dma (sendS t) : SemLoc sig) = .dma (sendS u) → t = u := by revert t u; decide

/-- The credit of one slot's copy. -/
abbrev N : ℕ := (slotM 0).view.dmaCredit
theorem N_pos : 0 < N := View.dmaCredit_pos _ (by decide)
theorem amount_slot (j : Fin 4) : (slotM j).view.dmaCredit = N := by fin_cases j <;> rfl

/-! ## What the buffers hold -/

/-- The device's block of the queries, keys and values, as it is staged. -/
def qstg (c : Dev nD) : (cc0_stg0_0 : Ref sig .tc).ty.Contents (Elt F) :=
  (win0_0.blk (0 : Fin 1)).view.read (Elt F) ((st₀ m ρ).mem ((c : Thread nD τ).loc main_arg0))
def kstg (c : Dev nD) : (cc0_stg1_0 : Ref sig .tc).ty.Contents (Elt F) :=
  (win0_1.blk (0 : Fin 1)).view.read (Elt F) ((st₀ m ρ).mem ((c : Thread nD τ).loc main_arg1))
def vstg (c : Dev nD) : (cc0_stg2_0 : Ref sig .tc).ty.Contents (Elt F) :=
  (win0_2.blk (0 : Fin 1)).view.read (Elt F) ((st₀ m ρ).mem ((c : Thread nD τ).loc main_arg2))

/-- An index of the buffer without its first two coordinates: an index of one block. -/
def tail4 (i : S4x2x2x512x8x64.Idx) : S2x512x8x64.Idx := fun a => match a with
  | ⟨0, _⟩ => ⟨(i (2 : Fin 6)).val, (i (2 : Fin 6)).isLt⟩
  | ⟨1, _⟩ => ⟨(i (3 : Fin 6)).val, (i (3 : Fin 6)).isLt⟩
  | ⟨2, _⟩ => ⟨(i (4 : Fin 6)).val, (i (4 : Fin 6)).isLt⟩
  | ⟨3, _⟩ => ⟨(i (5 : Fin 6)).val, (i (5 : Fin 6)).isLt⟩

/-- Plane 0 of a slot is a block of keys, plane 1 a block of values. -/
def plane (d : Dev nD) (p : ℕ) : S2x512x8x64.Idx → Elt F .f32 := if p = 0 then kstg m ρ d else vstg m ρ d

/-- The device's buffer at the end of the ring: slot `j` holds the keys and values of the device `j` places back. -/
def ringBuf (c : Dev nD) : Buf (Elt F) ((gM : Memref sig .tc .vmem S4x2x2x512x8x64 .f32).view.loc (c : Thread nD τ)) :=
  fun (i : S4x2x2x512x8x64.Idx) => plane m ρ (back c (i (0 : Fin 6)).val) (i (1 : Fin 6)).val (tail4 i)

/-! ## The slots as parts of the buffer -/

omit [FloatOps F] in
theorem slot_set (j : Fin 4) : (slotM j).view.set = (slotR j).set :=
  (View.set_reshape _ _).trans (View.set_slice_whole _ _)

/-- A slot held, its elements at `f`. -/
def slotPts (c : Dev nD) (j : Fin 4) (f : Buf (Elt F) ((gM : Memref sig .tc .vmem S4x2x2x512x8x64 .f32).view.loc (c : Thread nD τ))) : sProp 𝕄 :=
  (slotM j).view.loc (c : Thread nD τ) ↦[(slotM j).view.set]{fullShare} f

omit [FloatOps F] in
instance slotPts_storable (c : Dev nD) (j : Fin 4) (f) : BI.Storable (upEmb : UEmb _ 𝕄) (slotPts (F := F) c j f) := by
  unfold slotPts; infer_instance

theorem slots_disjoint (j j' : Fin 4) (h : j ≠ j') : Disjoint (slotR j).set (slotR j').set :=
  Ring.lead_disjoint (s := S4x2x2x512x8x64) (NB := 4) (0 : Fin 6) 1 (fun j => ![j.val, 0, 0, 0, 0, 0]) S1x2x2x512x8x64.size inb_slot
    (fun b => (Nat.one_mul _).symm) rfl j j' h

theorem slots_cover : Finset.univ.biUnion (fun j : Fin 4 => (slotR j).set) = Finset.univ :=
  Ring.lead_cover (s := S4x2x2x512x8x64) (NB := 4) (0 : Fin 6) 1 (fun j => ![j.val, 0, 0, 0, 0, 0]) S1x2x2x512x8x64.size inb_slot
    (fun b => (Nat.one_mul _).symm) (by decide) rfl (by decide) rfl

omit [FloatOps F] in
/-- The buffer held whole is its four slots held. -/
theorem slots_eq (c : Dev nD) (f : Buf (Elt F) ((c : Thread nD τ).loc cc0_scratch0)) :
    (((c : Thread nD τ).loc cc0_scratch0) ↦{fullShare} f : sProp 𝕄)
      = iprop(slotPts c 0 f ∗ slotPts c 1 f ∗ slotPts c 2 f ∗ slotPts c 3 f) := by
  rw [Ring.pointsTo_blocks (ℓ := (c : Thread nD τ).loc cc0_scratch0) (fun j : Fin 4 => (slotR j).set) slots_disjoint slots_cover f,
    bigSep_univ_eq_bigSepL [(0 : Fin 4), 1, 2, 3] (by decide) (by decide)]
  unfold slotPts
  rw [slot_set, slot_set, slot_set, slot_set]
  rfl

/-- A slot copied one place along the ring, one slot further: where slot `t` of `c` is as at the end, slot `t + 1` of
    `nxt c` becomes as at the end. -/
theorem landed_eq (c : Dev nD) (t : Fin 3) (fd : Buf (Elt F) ((slotM t.succ).view.loc (nxt c : Thread nD τ)))
    (i : S4x2x2x512x8x64.Idx) (hi : i ∈ (slotM t.succ).view.set) :
    (slotM t.succ).view.write (Elt F) fd ((slotM t.castSucc).view.read (Elt F) (ringBuf m ρ c)) Finset.univ i = ringBuf m ρ (nxt c) i := by
  obtain ⟨x, -, rfl⟩ := Finset.mem_map.mp hi
  refine (View.write_emb_of_mem _ _ (Finset.mem_univ x)).trans ?_
  generalize hy : (Shape.reshapeEquiv squeezes_S1x2x2x512x8x64_S2x2x512x8x64.numel_eq x : S1x2x2x512x8x64.Idx) = y
  have e1 : (slotM t.succ).view.emb x = (slotR t.succ).emb y := by rw [← hy]; rfl
  have e0 : (slotM t.castSucc).view.emb x = (slotR t.castSucc).emb y := by rw [← hy]; rfl
  rw [View.read_apply, cast_cast, cast_eq, e0, e1]
  have hv : ∀ (j : Fin 4) (a : Fin 6), (((slotR j).emb y) a).val = (![j.val, 0, 0, 0, 0, 0] : Fin 6 → Nat) a + (y a).val :=
    fun j a => by rw [Rect.emb_apply]; exact congrArg _ (Nat.one_mul _)
  have y0 : (y (0 : Fin 6)).val = 0 := by have := (y (0 : Fin 6)).isLt; exact Nat.lt_one_iff.mp this
  have h0 : ((slotR t.castSucc).emb y (0 : Fin 6)).val = t.val := by rw [hv, y0]; rfl
  have h0' : ((slotR t.succ).emb y (0 : Fin 6)).val = t.val + 1 := by rw [hv, y0]; rfl
  have h1 : ((slotR t.castSucc).emb y (1 : Fin 6)).val = ((slotR t.succ).emb y (1 : Fin 6)).val := by rw [hv, hv]; rfl
  have ht : tail4 ((slotR t.castSucc).emb y) = tail4 ((slotR t.succ).emb y) := by
    funext a; apply Fin.ext
    fin_cases a
    · exact (hv _ 2).trans (hv _ 2).symm
    · exact (hv _ 3).trans (hv _ 3).symm
    · exact (hv _ 4).trans (hv _ 4).symm
    · exact (hv _ 5).trans (hv _ 5).symm
  show plane m ρ (back c ((slotR t.castSucc).emb y (0 : Fin 6)).val) _ (tail4 _) = plane m ρ (back (nxt c) ((slotR t.succ).emb y (0 : Fin 6)).val) _ (tail4 _)
  rw [h0, h0', h1, ht, back_nxt]

end Cert.RingProof

end
-- ==== Proof.Head.lean ====
/-
One head of the attention, and the kernel's result as a function of the staged queries and of the four-slot buffer.

The kernel computes its sixteen (batch, head) pairs one after the other, the same computation each time. `head` is that
computation for any pair, `outOf` the whole result.
-/
module

public import proofs.«01_k».proof.Proof.Ring

@[expose] public section

noncomputable section

namespace Cert.RingProof

open Cert.KernelIdeal Cert.KernelIdeal.Gen
open Idealize.ShloMosaic

variable {F : FTy → Type} [FloatOps F]

theorem inb_q (bi : Fin 2) (hi : Fin 8) : ∀ a, (![bi.val, 0, hi.val, 0] : Fin 4 → Nat) a + S1x512x1x64.size a ≤ S2x512x8x64.size a := by
  revert bi hi; decide
theorem inb_g (j : Fin 4) (p : Fin 2) (bi : Fin 2) (hi : Fin 8) :
    ∀ a, (![j.val, p.val, bi.val, 0, hi.val, 0] : Fin 6 → Nat) a + S1x1x1x512x1x64.size a ≤ S4x2x2x512x8x64.size a := by
  revert j p bi hi; decide

/-- The rows of batch `bi`, head `hi` in a staged block, -/
abbrev qR (bi : Fin 2) (hi : Fin 8) : Rect S2x512x8x64 := Rect.unit (s := S2x512x8x64) ![bi.val, 0, hi.val, 0] S1x512x1x64.size (inb_q bi hi)
/-- and in plane `p` of slot `j` of the buffer. -/
abbrev gR (j : Fin 4) (p : Fin 2) (bi : Fin 2) (hi : Fin 8) : Rect S4x2x2x512x8x64 :=
  Rect.unit (s := S4x2x2x512x8x64) ![j.val, p.val, bi.val, 0, hi.val, 0] S1x1x1x512x1x64.size (inb_g j p bi hi)

/-- One head from its queries and the four slots' keys and values: the scores, their softmax over all four slots' rows, and
    the weighted sum of the values, slot after slot. -/
def headOf (q : Vec F S1x512x1x64 .f32) (k v : Fin 4 → Vec F S1x1x1x512x1x64 .f32) : FVec F S1x512x1x64 .f32 :=
  k0_pay9 (k0_pay7 (k0_pay5 q (k 0) (k 1) (k 2) (k 3)) (v 0) (v 1) (v 2)) (k0_pay8 (k0_pay5 q (k 0) (k 1) (k 2) (k 3)) (v 3))

/-- The head of batch `bi`, number `hi`, read out of the staged queries `q` and the buffer `g`. -/
def head (q : S2x512x8x64.Idx → Elt F .f32) (g : S4x2x2x512x8x64.Idx → Elt F .f32) (bi : Fin 2) (hi : Fin 8) : FVec F S1x512x1x64 .f32 :=
  headOf (fun x => q ((qR bi hi).emb x)) (fun j x => g ((gR j 0 bi hi).emb x)) (fun j x => g ((gR j 1 bi hi).emb x))

/-- The place of an index of the block inside its own head. -/
def rowIx (y : S2x512x8x64.Idx) : S1x512x1x64.Idx := fun a => match a with
  | ⟨0, _⟩ => ⟨0, Nat.one_pos⟩
  | ⟨1, _⟩ => ⟨(y (1 : Fin 4)).val, (y (1 : Fin 4)).isLt⟩
  | ⟨2, _⟩ => ⟨0, Nat.one_pos⟩
  | ⟨3, _⟩ => ⟨(y (3 : Fin 4)).val, (y (3 : Fin 4)).isLt⟩

/-- The kernel's result: at every index, its own head's value there. -/
def outOf (q : S2x512x8x64.Idx → Elt F .f32) (g : S4x2x2x512x8x64.Idx → Elt F .f32) : S2x512x8x64.Idx → Elt F .f32 :=
  fun y => head q g (y (0 : Fin 4)) (y (2 : Fin 4)) (rowIx y)

/-- On the rows of one head the result is that head. -/
theorem outOf_emb (q : S2x512x8x64.Idx → Elt F .f32) (g : S4x2x2x512x8x64.Idx → Elt F .f32) (bi : Fin 2) (hi : Fin 8)
    (x : S1x512x1x64.Idx) : outOf q g ((qR bi hi).emb x) = head q g bi hi x := by
  have hv : ∀ a : Fin 4, (((qR bi hi).emb x) a).val = (![bi.val, 0, hi.val, 0] : Fin 4 → Nat) a + (x a).val :=
    fun a => by rw [Rect.emb_apply]; exact congrArg _ (Nat.one_mul _)
  have x0 : (x (0 : Fin 4)).val = 0 := Nat.lt_one_iff.mp (x (0 : Fin 4)).isLt
  have x2 : (x (2 : Fin 4)).val = 0 := Nat.lt_one_iff.mp (x (2 : Fin 4)).isLt
  have h0 : (qR bi hi).emb x (0 : Fin 4) = bi := Fin.ext ((hv 0).trans (by rw [x0]; rfl))
  have h2 : (qR bi hi).emb x (2 : Fin 4) = hi := Fin.ext ((hv 2).trans (by rw [x2]; rfl))
  have hr : rowIx ((qR bi hi).emb x) = x := by
    funext a; apply Fin.ext
    fin_cases a
    · exact x0.symm
    · exact (hv 1).trans (Nat.zero_add _)
    · exact x2.symm
    · exact (hv 3).trans (Nat.zero_add _)
  unfold outOf
  rw [h0, h2, hr]

end Cert.RingProof

end
-- ==== Proof.Protocol.lean ====
/-
The protocol of `Ring` as data for the rounds of its semaphores: who pays what onto which, in what order the waits may
stand, and what each device starts and ends with.
-/
module

public import proofs.«01_k».proof.Proof.Head

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- The slot whose copy pays a semaphore: step `t`'s send semaphore gives back slot `t`, its receive semaphore slot `t + 1`. -/
def slotOf (s : SemLoc sig) : Option (Fin 4) :=
  [(0 : Fin 3), 1, 2].findSome? fun t => if s = .dma (recvS t) then some t.succ else if s = .dma (sendS t) then some t.castSucc else none

theorem slotOf_recv (t : Fin 3) : slotOf (.dma (recvS t)) = some t.succ := by revert t; decide
theorem slotOf_send (t : Fin 3) : slotOf (.dma (sendS t)) = some t.castSucc := by revert t; decide

/-- What `nxt c`'s unit on `c`'s barrier hands over: `nxt c`'s slots 1, 2, 3, and that its receive semaphores are in their
    first round. -/
def barPay (c : Dev nD) : sProp 𝕄 :=
  iprop(((∃ f, slotPts (nxt c) 1 f) ∗ reached ER (recvCell (nxt c) 0) 0)
    ∗ ((∃ f, slotPts (nxt c) 2 f) ∗ reached ER (recvCell (nxt c) 1) 0)
    ∗ ((∃ f, slotPts (nxt c) 3 f) ∗ reached ER (recvCell (nxt c) 2) 0))

/-- What a copy's credit hands over: its slot, as at the end of the ring. -/
def slotPay (c : Dev nD) : Option (Fin 4) → sProp 𝕄
  | some j => slotPts c j (ringBuf m ρ c)
  | none => iprop(emp)

abbrev IsBar (g : GSem nD τ sig) : Prop := g.1.2 = .tc ∧ g.2 = .reg barS
abbrev IsXfer (g : GSem nD τ sig) : Prop := g.1.2 = .tc ∧ (slotOf g.2).isSome

/-- Every semaphore has one round: the barrier two units, paid by the two neighbours, a copy's semaphore one slot's credit. -/
def rd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := if g.2 = .reg barS then (if d then barPay g.1.1 else iprop(emp)) else slotPay m ρ g.1.1 (slotOf g.2)
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) m ρ).payload g r d) := by
  show BI.Storable upEmb (if g.2 = .reg barS then (if d then barPay g.1.1 else iprop(emp)) else slotPay m ρ g.1.1 (slotOf g.2))
  unfold barPay
  rcases slotOf g.2 with _ | j <;> unfold slotPay <;> dsimp only <;> (repeat' split) <;> infer_instance

section Sched
variable (c : Dev nD) (t : Fin 3)

omit [FloatOps F] in
theorem duties_bar : (rd (F := F) m ρ).duties (barCell c) 0 = Finset.univ := by dsimp only [rd]; exact if_pos ⟨rfl, rfl, rfl⟩
omit [FloatOps F] in
theorem duties_send : (rd (F := F) m ρ).duties (sendCell c t) 0 = {false} := by
  dsimp only [rd]; rw [if_neg (fun h => send_ne_bar t h.2.2)]; exact if_pos ⟨rfl, rfl, by show (slotOf _).isSome = true; rw [slotOf_send]; rfl⟩
omit [FloatOps F] in
theorem duties_recv : (rd (F := F) m ρ).duties (recvCell c t) 0 = {false} := by
  dsimp only [rd]; rw [if_neg (fun h => recv_ne_bar t h.2.2)]; exact if_pos ⟨rfl, rfl, by show (slotOf _).isSome = true; rw [slotOf_recv]; rfl⟩
omit [FloatOps F] in
theorem duties_later (g : GSem nD τ sig) : ∀ r, 1 ≤ r → (rd (F := F) m ρ).duties g r = ∅ :=
  fun r hr => by dsimp only [rd]; rw [if_neg fun h => by omega, if_neg fun h => by omega]

omit [FloatOps F] in
theorem amount_bar (d : Bool) : (rd (F := F) m ρ).amount (barCell c) 0 d = 1 := by dsimp only [rd]; exact if_pos rfl
omit [FloatOps F] in
theorem amount_send (d : Bool) : (rd (F := F) m ρ).amount (sendCell c t) 0 d = N := by dsimp only [rd]; exact if_neg (send_ne_bar t)
omit [FloatOps F] in
theorem amount_recv (d : Bool) : (rd (F := F) m ρ).amount (recvCell c t) 0 d = N := by dsimp only [rd]; exact if_neg (recv_ne_bar t)

omit [FloatOps F] in
theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_send : (rd (F := F) m ρ).expect (sendCell c t) 0 = N := by
  unfold Schedule.expect Schedule.amountOf; rw [duties_send, Finset.sum_singleton, amount_send]
omit [FloatOps F] in
theorem expect_recv : (rd (F := F) m ρ).expect (recvCell c t) 0 = N := by
  unfold Schedule.expect Schedule.amountOf; rw [duties_recv, Finset.sum_singleton, amount_recv]

omit [FloatOps F] in
theorem payload_bar_true : (rd (F := F) m ρ).payload (barCell c) 0 true = barPay c := by dsimp only [rd]; rw [if_pos rfl, if_pos rfl]
omit [FloatOps F] in
theorem payload_bar_false : (rd (F := F) m ρ).payload (barCell c) 0 false = iprop(emp) := by
  dsimp only [rd]; rw [if_pos rfl]; exact if_neg Bool.false_ne_true
omit [FloatOps F] in
theorem payload_send (d : Bool) : (rd (F := F) m ρ).payload (sendCell c t) 0 d = slotPts c t.castSucc (ringBuf m ρ c) := by
  dsimp only [rd]; rw [if_neg (send_ne_bar t), slotOf_send]; rfl
omit [FloatOps F] in
theorem payload_recv (d : Bool) : (rd (F := F) m ρ).payload (recvCell c t) 0 d = slotPts c t.succ (ringBuf m ρ c) := by
  dsimp only [rd]; rw [if_neg (recv_ne_bar t), slotOf_recv]; rfl

omit [FloatOps F] in
/-- All that the barrier's round hands over: nothing from one neighbour, `barPay` from the other. -/
theorem rest_bar : bigSep ((rd (F := F) m ρ).duties (barCell c) 0 \ ∅) (fun d => (rd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
theorem rest_send : bigSep ((rd (F := F) m ρ).duties (sendCell c t) 0 \ ∅) (fun d => (rd (F := F) m ρ).payload (sendCell c t) 0 d)
    = slotPts c t.castSucc (ringBuf m ρ c) := by
  rw [Finset.sdiff_empty, duties_send, bigSep_singleton, payload_send]
omit [FloatOps F] in
theorem rest_recv : bigSep ((rd (F := F) m ρ).duties (recvCell c t) 0 \ ∅) (fun d => (rd (F := F) m ρ).payload (recvCell c t) 0 d)
    = slotPts c t.succ (ringBuf m ρ c) := by
  rw [Finset.sdiff_empty, duties_recv, bigSep_singleton, payload_recv]

end Sched

/-! ## What a device owes, and the levels that order the waits -/

/-- What `c` still owes before step `t`: the copies of the steps from `t` on, onto `nxt c`'s receive semaphores, the next
    step's last in the sum. -/
def left (c : Dev nD) : Fin 4 → CellTallies nD τ sig Unit := fun
  | 0 => ((0 + tallyAt (recvCell (nxt c) 2) () N) + tallyAt (recvCell (nxt c) 1) () N) + tallyAt (recvCell (nxt c) 0) () N
  | 1 => (0 + tallyAt (recvCell (nxt c) 2) () N) + tallyAt (recvCell (nxt c) 1) () N
  | 2 => 0 + tallyAt (recvCell (nxt c) 2) () N
  | 3 => 0

theorem left_step (c : Dev nD) (t : Fin 3) : left c t.castSucc = left c t.succ + tallyAt (recvCell (nxt c) t) () N := by
  fin_cases t <;> rfl

/-- What a device owes at the start: its three copies, then its unit on `nxt c`'s barrier, then the one on `prv c`'s (the
    first it pays). -/
def O₁ (c : Dev nD) : CellTallies nD τ sig Unit := left c 0 + tallyAt (barCell (nxt c)) () 1
def O₀ (c : Dev nD) : CellTallies nD τ sig Unit := O₁ c + tallyAt (barCell (prv c)) () 1

/-- The step whose receive semaphore this is. -/
def stepOf (s : SemLoc sig) : Option (Fin 3) := [(0 : Fin 3), 1, 2].find? fun t => s = .dma (recvS t)

theorem stepOf_recv (t : Fin 3) : stepOf (.dma (recvS t)) = some t := by revert t; decide
theorem stepOf_send (t : Fin 3) : stepOf (.dma (sendS t)) = none := by revert t; decide

def L (g : GSem nD τ sig) : Finset Unit := if g.1.2 = .tc then {()} else ∅
/-- Barriers stand at level 1, the receive semaphore of step `t` at level `2 + t`, everything else at 0. -/
def lv (g : GSem nD τ sig) (_ : Unit) : ℕ := if g.2 = .reg barS then 1 else (stepOf g.2).elim 0 fun t => 2 + t.val

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (t : Fin 3) (u : Unit) : lv (recvCell c t) u = 2 + t.val := by
  unfold lv; rw [if_neg (recv_ne_bar t), stepOf_recv]; rfl
theorem lv_send (c : Dev nD) (t : Fin 3) (u : Unit) : lv (sendCell c t) u = 0 := by
  unfold lv; rw [if_neg (send_ne_bar t), stepOf_send]; rfl

theorem tally_pos {g₀ g : GSem nD τ sig} {n : ℕ} {u : Unit} (h : 0 < tallyAt g₀ () n g u) : g = g₀ := by
  rw [tallyAt_apply] at h
  by_contra hn
  rw [if_neg (fun h' => hn h'.1)] at h
  exact Nat.lt_irrefl 0 h

theorem add_pos_or {O O' : CellTallies nD τ sig Unit} {g : GSem nD τ sig} {u : Unit} (h : 0 < (O + O') g u) : 0 < O g u ∨ 0 < O' g u := by
  rw [Pi.add_apply, Finsupp.add_apply] at h; omega

/-- Before step `j` a device owes only receive semaphores of steps from `j` on. -/
theorem left_pos {c : Dev nD} {j : Fin 4} {g : GSem nD τ sig} {u : Unit} (h : 0 < left c j g u) :
    ∃ t : Fin 3, j.val ≤ t.val ∧ g = recvCell (nxt c) t := by
  have zero : ¬ 0 < (0 : CellTallies nD τ sig Unit) g u := Nat.lt_irrefl 0
  have h3 : 0 < left c 3 g u → False := zero
  have h2 : 0 < left c 2 g u → g = recvCell (nxt c) 2 := fun h => by
    rcases add_pos_or h with h | h
    · exact absurd h zero
    · exact tally_pos h
  have h1 : 0 < left c 1 g u → g = recvCell (nxt c) 2 ∨ g = recvCell (nxt c) 1 := fun h => by
    rcases add_pos_or h with h | h
    · exact .inl (h2 h)
    · exact .inr (tally_pos h)
  have h0 : 0 < left c 0 g u → g = recvCell (nxt c) 2 ∨ g = recvCell (nxt c) 1 ∨ g = recvCell (nxt c) 0 := fun h => by
    rcases add_pos_or h with h | h
    · rcases h1 h with h | h
      · exact .inl h
      · exact .inr (.inl h)
    · exact .inr (.inr (tally_pos h))
  fin_cases j
  · rcases h0 h with h | h | h
    · exact ⟨2, by decide, h⟩
    · exact ⟨1, by decide, h⟩
    · exact ⟨0, by decide, h⟩
  · rcases h1 h with h | h
    · exact ⟨2, by decide, h⟩
    · exact ⟨1, by decide, h⟩
  · exact ⟨2, by decide, h2 h⟩
  · exact (h3 h).elim

omit [FloatOps F] in
/-- A device may wait on a semaphore of level `n` when everything it owes stands above `n`. -/
theorem mayWait_of (c : Dev nD) (sm : SemLoc sig) (O : CellTallies nD τ sig Unit) (n : ℕ) (hn : lv ((c : Thread nD τ), sm) () ≤ n)
    (h : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hn)
    (fun g u hg => (h g u hg).2)

omit [FloatOps F] in
theorem mayWait_left (c : Dev nD) (sm : SemLoc sig) (j : Fin 4) (n : ℕ) (hn : lv ((c : Thread nD τ), sm) () ≤ n) (hj : n < 2 + j.val) :
    (levAts L lv : sProp 𝕄) ⊢ MayWait (c : Thread nD τ) sm () (left c j) :=
  mayWait_of c sm _ n hn fun g u hg => by
    obtain ⟨t, ht, rfl⟩ := left_pos hg
    exact ⟨rfl, by rw [lv_recv]; omega⟩

omit [FloatOps F] in
/-- The pipeline's own waits: on semaphores of level 0, owing everything or nothing. -/
theorem mayWait_stage (c : Dev nD) (q : DmaSem sig) (hq : stepOf (.dma q) = none) (O : CellTallies nD τ sig Unit) (hO : O = O₀ c ∨ O = 0) :
    (levAts L lv : sProp 𝕄) ⊢ MayWait (c : Thread nD τ) (.dma q) () O := by
  rcases hO with rfl | rfl
  · refine mayWait_of c _ _ 0 (by unfold lv; rw [if_neg (fun h => by cases h), hq]; exact Nat.le_refl 0) fun g u hg => ?_
    rcases add_pos_or hg with hg | hg
    · rcases add_pos_or hg with hg | hg
      · obtain ⟨t, -, rfl⟩ := left_pos hg
        exact ⟨rfl, by rw [lv_recv]; omega⟩
      · rw [tally_pos hg, lv_bar]; exact ⟨rfl, Nat.one_pos⟩
    · rw [tally_pos hg, lv_bar]; exact ⟨rfl, Nat.one_pos⟩
  · rw [MayWait_zero]; iintro -; iempintro

/-! ## What a device starts from and ends with -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: the attention of its queries over the four blocks of its ring. -/
def outAt (c : Dev nD) : (cc0_stg3_0 : Ref sig .tc).ty.Contents (Elt F) := outOf (qstg m ρ c) (ringBuf m ρ c)

/-- What step `t` uses: the three semaphores it touches under the names `K`, `c`'s places at its own two, and the right to
    pay `nxt c`'s receive semaphore and its own send semaphore. -/
def stepGhost (K : Dev nD × Fin 7 → ℕ) (c : Dev nD) (t : Fin 3) : sProp 𝕄 :=
  iprop((cellInv ER (rd m ρ) (K (c, sIx t)) (sendCell c t) ∗ cellInv ER (rd m ρ) (K (c, rIx t)) (recvCell c t)
      ∗ cellInv ER (rd m ρ) (K (nxt c, rIx t)) (recvCell (nxt c) t)
      ∗ reached ER (sendCell c t) 0 ∗ reached ER (recvCell c t) 0)
    ∗ atPos ER (sendCell c t) 0 ∅ 0 ∗ atPos ER (recvCell c t) 0 ∅ 0
    ∗ dutyTok ER (recvCell (nxt c) t) 0 false ∗ dutyTok ER (sendCell c t) 0 false)

/-- What the handshake uses: the three barriers it touches, `c`'s place at its own, and the right to pay the other two. -/
def barGhost (K : Dev nD × Fin 7 → ℕ) (c : Dev nD) : sProp 𝕄 :=
  iprop((cellInv ER (rd m ρ) (K (c, 0)) (barCell c) ∗ cellInv ER (rd m ρ) (K (nxt c, 0)) (barCell (nxt c)) ∗ cellInv ER (rd m ρ) (K (prv c, 0)) (barCell (prv c))
      ∗ reached ER (barCell (nxt c)) 0 ∗ reached ER (barCell (prv c)) 0)
    ∗ atPos ER (barCell c) 0 ∅ 0
    ∗ dutyTok ER (barCell (nxt c)) 0 false ∗ dutyTok ER (barCell (prv c)) 0 true)

def ghost (K : Dev nD × Fin 7 → ℕ) (c : Dev nD) : sProp 𝕄 :=
  iprop(barGhost m ρ K c ∗ stepGhost m ρ K c 0 ∗ stepGhost m ρ K c 1 ∗ stepGhost m ρ K c 2)

/-- The credits a device waits with: its barrier's two units and its three receive semaphores' copies. -/
def creds (c : Dev nD) : sProp 𝕄 :=
  iprop(cred (tallyAt (barCell c) () 2) ∗ cred (tallyAt (recvCell c 0) () N) ∗ cred (tallyAt (recvCell c 1) () N) ∗ cred (tallyAt (recvCell c 2) () N))

def start (c : Dev nD) : sProp 𝕄 := iprop((∃ K, ghost m ρ K c) ∗ creds c ∗ levAts L lv)

/-- Before the body: the ghost state, the credits, and the buffer at any contents. -/
def Φ₀ (c : Dev nD) : sProp 𝕄 := iprop(start m ρ c ∗ ∃ f : Buf (Elt F) ((c : Thread nD τ).loc cc0_scratch0), ((c : Thread nD τ).loc cc0_scratch0) ↦{fullShare} f)
/-- After it: the buffer as at the end of the ring, and all seven semaphores back at zero. -/
def Φ₁ (c : Dev nD) : sProp 𝕄 :=
  iprop((((c : Thread nD τ).loc cc0_scratch0) ↦{fullShare} ringBuf m ρ c)
    ∗ (semVal (sendCell c 0) 0 ∗ semVal (sendCell c 1) 0 ∗ semVal (sendCell c 2) 0
      ∗ semVal (recvCell c 0) 0 ∗ semVal (recvCell c 1) 0 ∗ semVal (recvCell c 2) 0) ∗ semVal (barCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.RingProof

end
-- ==== Proof.Steps.lean ====
/-
The steps of the protocol, each stated once: the handshake's two signals and its wait, and one step of the ring (the copy
and its two waits) for any of the three steps.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 7 → ℕ)

section Steps

/-- What a device has paid and waited for so far, whatever the waits. -/
def owing (c : Dev nD) (O : CellTallies nD τ sig Unit) : sProp 𝕄 := iprop(∃ W, owes (c : Thread nD τ) O W)

/-- Before step `t`: its ghost state, the slot to copy as at the end, the next device's slot at any contents, the credit
    of its own landing, and what it owes. -/
def stepPre (c : Dev nD) (t : Fin 3) : sProp 𝕄 :=
  iprop(stepGhost m ρ K c t ∗ cred (tallyAt (recvCell c t) () N) ∗ levAts L lv
    ∗ slotPts c t.castSucc (ringBuf m ρ c) ∗ (∃ fn, slotPts (nxt c) t.succ fn) ∗ reached ER (recvCell (nxt c) t) 0
    ∗ owing c (left c t.castSucc))

/-- After it: both slots as at the end, the step's two semaphores at zero, and one copy less owed. -/
def stepPost (c : Dev nD) (t : Fin 3) : sProp 𝕄 :=
  iprop(slotPts c t.castSucc (ringBuf m ρ c) ∗ slotPts c t.succ (ringBuf m ρ c)
    ∗ semVal (sendCell c t) 0 ∗ semVal (recvCell c t) 0 ∗ owing c (left c t.succ))

set_option maxHeartbeats 800000 in
/-- One step of the ring, the copy sent to `n = nxt c`: from `stepPre` to `stepPost`. -/
theorem wp_step (c n : Dev nD) (t : Fin 3) (hn : n = nxt c)
    {src dst : Memref sig .tc .vmem S2x2x512x8x64 .f32} {dst' : Memref sig (Dev.tc n : Thread nD τ).2.kind .vmem S2x2x512x8x64 .f32}
    {s s' : DmaSem sig} {r r' : DmaSem sig}
    (hsrc₀ : src = slotM t.castSucc) (hdst₀ : dst = slotM t.succ) (hdst' : dst' = slotM t.succ)
    (hs : s = sendS t) (hs' : s' = sendS t) (hr : r = recvS t) (hr' : r' = recvS t)
    {hsc : dst'.view.ref.isScScratch = false} {hsrc : src.view.WordExact} {hdst : dst'.view.WordExact}
    {hsem : DmaTarget.Typed .vmem (.dma r) (.remote (Dev.tc n : Thread nD τ) dst' (.dma s) hsc)}
    {h1 h1' h2 h2'} {α : Type} {Q : α → sProp 𝕄} {k : PUnit → Prog (TpuEff nD τ sig (Elt F) Λ₀ .tc) α} :
    iprop(stepPre m ρ K c t ∗ (stepPost m ρ c t -∗ wp frame (wpE (defs₀ (F := F)) 𝒱₀ (c : Thread nD τ) none) Set.univ (k ⟨⟩) Q))
      ⊢ wp frame (wpE (defs₀ (F := F)) 𝒱₀ (c : Thread nD τ) none) Set.univ
          (.op (.enqueueDma src (.remote (Dev.tc n : Thread nD τ) dst' (.dma s) hsc) (.dma r) hsrc hdst hsem) fun _ =>
            .op (.waitDma2 s' dst src h1 h1') fun _ => .op (.waitDma2 r' src dst h2 h2') k) Q := by
  subst hn hsrc₀ hdst₀ hdst' hs hs' hr hr'
  unfold stepPre stepGhost owing
  iintro ⟨⟨⟨⟨#HIs, #HIr, #HIn, #Hrs, #Hrr⟩, HatS, HatR, HtR, HtS⟩, HcR, #Hlev, Hsrc, ⟨%fn, Hdst⟩, #Hrn, ⟨%W, HO⟩⟩, Hk⟩
  unfold slotPts
  iapply (Rounds.wp_send_pointsTo 𝒱₀ ER (rd m ρ) (c : Thread nD τ) none (κ₁ := K (c, sIx t)) (κ₂ := K (nxt c, rIx t))
    (c' := (nxt c : Thread nD τ)) (sS := .dma (sendS t)) (sem := .dma (recvS t)) (src := slotM t.castSucc) (dst := slotM t.succ) (fs := ringBuf m ρ c) (fd := fn) (r₁ := 0) (r₂ := 0) (d₁ := false) (d₂ := false)
    (by rw [duties_send]; exact Finset.mem_singleton_self _) (by rw [duties_recv]; exact Finset.mem_singleton_self _)
    () () N (amount_slot t.succ) (amount_send m ρ c t false) (amount_recv m ρ (nxt c) t false) (left c t.succ) (left_step c t) (W := W)
    (by rw [payload_send]; exact BI.Entails.refl _)
    (by rw [payload_recv]; unfold slotPts; exact Entails.of_eq (pointsTo_congr fun i hi => landed_eq m ρ c t fn i hi)))
    $$ [Hsrc Hdst HO HtS HtR]
  · isplitr; · iexact HIs
    isplitr; · iexact HIn
    isplitl [Hsrc]; · iexact Hsrc
    isplitl [Hdst]; · iexact Hdst
    isplitl [HO]; · iexact HO
    isplitl [HtS]; · iexact HtS
    isplitr; · iexact Hrs
    isplitl [HtR]; · iexact HtR
    iexact Hrn
  iintro ⟨HcS, HO⟩
  iapply (Rounds.wp_wait_rest_token 𝒱₀ ER (rd m ρ) (c : Thread nD τ) none (κ := K (c, sIx t))
      (wpE_waitDma2_eq 𝒱₀ (c : Thread nD τ) none Set.univ) (Set.mem_univ _) () (O := left c t.succ) (W := W) (R := 0) (m := 0) (T := ∅)
      (by rw [Nat.zero_add, expect_send])) $$ [HcS HO HatS]
  · isplitr; · iexact HIs
    isplitl [HcS]; · iexact HcS
    isplitl [HO]; · iexact HO
    isplitr; · iapply (mayWait_left c (.dma (sendS t)) t.succ 0 (by rw [lv_send]) (by omega)); iexact Hlev
    iexact HatS
  iintro ⟨HO, HatS, -, Hpay⟩
  ihave Hsrc := (Entails.of_eq (rest_send m ρ c t)) $$ Hpay
  iapply (Rounds.wp_wait_rest_token 𝒱₀ ER (rd m ρ) (c : Thread nD τ) none (κ := K (c, rIx t))
      (wpE_waitDma2_eq 𝒱₀ (c : Thread nD τ) none Set.univ) (Set.mem_univ _) () (O := left c t.succ)
      (W := insert (SemLoc.dma (sendS t), ()) W) (R := 0) (m := 0) (T := ∅)
      (by rw [Nat.zero_add, expect_recv])) $$ [HcR HO HatR]
  · isplitr; · iexact HIr
    isplitl [HcR]; · iexact HcR
    isplitl [HO]; · iexact HO
    isplitr; · iapply (mayWait_left c (.dma (recvS t)) t.succ (2 + t.val) (by rw [lv_recv]) (by rw [Fin.val_succ]; omega)); iexact Hlev
    iexact HatR
  iintro ⟨HO, HatR, -, Hpay⟩
  ihave Hdst := (Entails.of_eq (rest_recv m ρ c t)) $$ Hpay
  imod (Rounds.cell_close ER (rd m ρ) (Set.mem_univ (K (c, sIx t))) (fun h => h) (R := 0 + 1) (duties_later m ρ (sendCell c t))) $$ [HatS] with HzS
  · isplitr; · iexact HIs
    iexact HatS
  imod (Rounds.cell_close ER (rd m ρ) (Set.mem_univ (K (c, rIx t))) (fun h => h) (R := 0 + 1) (duties_later m ρ (recvCell c t))) $$ [HatR] with HzR
  · isplitr; · iexact HIr
    iexact HatR
  iapply Hk
  unfold stepPost owing
  isplitl [Hsrc]; · iexact Hsrc
  isplitl [Hdst]; · iexact Hdst
  isplitl [HzS]; · iexact HzS
  isplitl [HzR]; · iexact HzR
  iexists _; iexact HO

/-- What the handshake needs: its ghost state, the barrier's two units, slots 1, 2, 3 at any contents and that the receive
    semaphores are in their first round (handed to `prv c`), and what is owed. -/
def barPre (c : Dev nD) : sProp 𝕄 :=
  iprop(barGhost m ρ K c ∗ cred (tallyAt (barCell c) () 2) ∗ levAts L lv
    ∗ (((∃ f, slotPts c 1 f) ∗ reached ER (recvCell c 0) 0)
      ∗ ((∃ f, slotPts c 2 f) ∗ reached ER (recvCell c 1) 0)
      ∗ ((∃ f, slotPts c 3 f) ∗ reached ER (recvCell c 2) 0))
    ∗ owing c (O₀ c))

/-- What it leaves: `nxt c`'s three slots and its word, the barrier at zero, and the three copies owed. -/
def barPost (c : Dev nD) : sProp 𝕄 := iprop(barPay c ∗ semVal (barCell c) 0 ∗ owing c (left c 0))

set_option maxHeartbeats 800000 in
/-- The handshake: the signal to `p = prv c`, the signal to `n = nxt c`, the wait for two. -/
theorem wp_bar (c p n : Dev nD) (hp : p = prv c) (hn : n = nxt c) {b b' b'' : Sem sig} (hb : b = barS) (hb' : b' = barS) (hb'' : b'' = barS)
    {x y z : ℤ} (hx : x = ((1 : ℕ) : ℤ)) (hy : y = ((1 : ℕ) : ℤ)) (hz : z = ((2 : ℕ) : ℤ))
    {α : Type} {Q : α → sProp 𝕄} {k : PUnit → Prog (TpuEff nD τ sig (Elt F) Λ₀ .tc) α} :
    iprop(barPre m ρ K c ∗ (barPost c -∗ wp frame (wpE (defs₀ (F := F)) 𝒱₀ (c : Thread nD τ) none) Set.univ (k ⟨⟩) Q))
      ⊢ wp frame (wpE (defs₀ (F := F)) 𝒱₀ (c : Thread nD τ) none) Set.univ
          (.op (.semSignal (p : Thread nD τ) b x) fun _ => .op (.semSignal (n : Thread nD τ) b' y) fun _ => .op (.semWait b'' z) k) Q := by
  subst hp hn hb hb' hb'' hx hy hz
  unfold barPre barGhost owing
  iintro ⟨⟨⟨⟨#HI, #HIn, #HIp, #Hrn, #Hrp⟩, Hat, Htn, Htp⟩, Hc, #Hlev, Hs, ⟨%W, HO⟩⟩, Hk⟩
  iapply (Rounds.wp_signal 𝒱₀ ER (rd m ρ) (c : Thread nD τ) none (dst := (prv c : Thread nD τ)) (κ := K (prv c, 0))
      (d := true) (by rw [duties_bar]; exact Finset.mem_univ _) (amount_bar m ρ (prv c) true) () (O₁ c) rfl)
    $$ [HO Htp Hs]
  · isplitr; · iexact HIp
    isplitl [HO]; · iexact HO
    isplitl [Htp]; · iexact Htp
    isplitl [Hs]
    · rw [payload_bar_true]; unfold barPay; rw [nxt_prv]; iexact Hs
    iexact Hrp
  iintro HO
  iapply (Rounds.wp_signal 𝒱₀ ER (rd m ρ) (c : Thread nD τ) none (dst := (nxt c : Thread nD τ)) (κ := K (nxt c, 0))
      (d := false) (by rw [duties_bar]; exact Finset.mem_univ _) (amount_bar m ρ (nxt c) false) () (left c 0) rfl)
    $$ [HO Htn]
  · isplitr; · iexact HIn
    isplitl [HO]; · iexact HO
    isplitl [Htn]; · iexact Htn
    isplitr; · rw [payload_bar_false]; iempintro
    iexact Hrn
  iintro HO
  iapply (Rounds.wp_wait_rest_token 𝒱₀ ER (rd m ρ) (c : Thread nD τ) none (κ := K (c, 0))
      (wpE_semWait_eq 𝒱₀ (c : Thread nD τ) none Set.univ) (Set.mem_univ _) () (O := left c 0) (W := W) (R := 0) (m := 0) (T := ∅)
      (by rw [expect_bar])) $$ [Hc HO Hat]
  · isplitr; · iexact HI
    isplitl [Hc]; · iexact Hc
    isplitl [HO]; · iexact HO
    isplitr; · iapply (mayWait_left c (.reg barS) 0 1 (Nat.le_of_eq (lv_bar c ())) (by decide)); iexact Hlev
    iexact Hat
  iintro ⟨HO, Hat, -, Hpay⟩
  ihave Hp := (Entails.of_eq (rest_bar m ρ c)) $$ Hpay
  icases Hp with ⟨-, Hp⟩
  imod (Rounds.cell_close ER (rd m ρ) (Set.mem_univ (K (c, 0))) (fun h => h) (R := 0 + 1) (duties_later m ρ (barCell c))) $$ [Hat] with Hz
  · isplitr; · iexact HI
    iexact Hat
  iapply Hk
  unfold barPost owing
  isplitl [Hp]; · iexact Hp
  isplitl [Hz]; · iexact Hz
  iexists _; iexact HO

end Steps

end Cert.RingProof

end
-- ==== Proof.Stored.lean ====
/-
The two stores at the start: they bring slot 0 to what it holds at the end of the ring.
-/
module

public import proofs.«01_k».proof.Proof.Steps
public import Idealize.ShloMosaic.Lib.Pointwise

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Plane `p` of slot 0. -/
abbrev planeR (p : Fin 2) : Rect S4x2x2x512x8x64 :=
  Rect.unit (s := S4x2x2x512x8x64) ![0, p.val, 0, 0, 0, 0] S1x1x2x512x8x64.size (by revert p; decide)

theorem planeR_val (p : Fin 2) (x : S1x1x2x512x8x64.Idx) (a : Fin 6) :
    (((planeR p).emb x) a).val = (![0, p.val, 0, 0, 0, 0] : Fin 6 → Nat) a + (x a).val := by
  rw [Rect.emb_apply]; exact congrArg _ (Nat.one_mul _)

omit [FloatOps F] in
/-- A block under two leading unit axes, read at a place of plane `p`. -/
theorem cast_plane (w : Vec F S2x512x8x64 .f32) (p : Fin 2) (x : S1x1x2x512x8x64.Idx) :
    shapeCast S1x1x2x512x8x64 (shapeCast S2x512x8x64 w shapeCasts_S2x512x8x64_S2x512x8x64) shapeCasts_S2x512x8x64_S1x1x2x512x8x64 x
      = w (tail4 ((planeR p).emb x)) := by
  have ht : tail4 ((planeR p).emb x) = ix4 (x 2) (x 3) (x 4) (x 5) := by
    funext a; apply Fin.ext
    fin_cases a
    · exact (planeR_val p x 2).trans (Nat.zero_add _)
    · exact (planeR_val p x 3).trans (Nat.zero_add _)
    · exact (planeR_val p x 4).trans (Nat.zero_add _)
    · exact (planeR_val p x 5).trans (Nat.zero_add _)
  rw [ht]
  idx_vars x
  pointwise

/-- Plane `p` of slot 0 at the end of the ring is the device's own block. -/
theorem ringBuf_plane (c : Dev nD) (p : Fin 2) (x : S1x1x2x512x8x64.Idx) :
    ringBuf m ρ c ((planeR p).emb x) = plane m ρ c p.val (tail4 ((planeR p).emb x)) := by
  have h0 : (((planeR p).emb x) (0 : Fin 6)).val = 0 := by
    rw [planeR_val]; exact (Nat.zero_add _).trans (Nat.lt_one_iff.mp (x (0 : Fin 6)).isLt)
  have h1 : (((planeR p).emb x) (1 : Fin 6)).val = p.val := by
    rw [planeR_val]; exact congrArg (p.val + ·) (Nat.lt_one_iff.mp (x (1 : Fin 6)).isLt)
  show plane m ρ (back c _) _ _ = _
  rw [h0, h1, back_zero]

/-- Every index of slot 0 lies in one of its two planes. -/
theorem slot0_plane (i : S4x2x2x512x8x64.Idx) (hi : i ∈ (slotM 0).view.set) : ∃ p : Fin 2, i ∈ (planeR p).set := by
  rw [slot_set, Rect.mem_set_unit] at hi
  refine ⟨i (1 : Fin 6), Rect.mem_set_unit.mpr fun a => ?_⟩
  have ha := hi a
  have hl := (i a).isLt
  fin_cases a
  · exact ha
  · exact ⟨Nat.le_refl _, Nat.lt_succ_self _⟩
  · exact ⟨Nat.zero_le _, by exact (Nat.zero_add _).symm ▸ hl⟩
  · exact ⟨Nat.zero_le _, by exact (Nat.zero_add _).symm ▸ hl⟩
  · exact ⟨Nat.zero_le _, by exact (Nat.zero_add _).symm ▸ hl⟩
  · exact ⟨Nat.zero_le _, by exact (Nat.zero_add _).symm ▸ hl⟩

/-- The two stores leave slot 0 as at the end of the ring. -/
theorem stored_eq (c : Dev nD) (f : Buf (Elt F) (gM.view.loc (c : Thread nD τ))) (wk wv : S1x1x2x512x8x64.Idx → Elt F .f32)
    (hk : ∀ x, wk x = kstg m ρ c (tail4 ((planeR 0).emb x))) (hv : ∀ x, wv x = vstg m ρ c (tail4 ((planeR 1).emb x)))
    (i : S4x2x2x512x8x64.Idx) (hi : i ∈ (slotM 0).view.set) :
    gM.view.writes (Elt F) f [⟨planeR 1, wv⟩, ⟨planeR 0, wk⟩] i = ringBuf m ρ c i := by
  refine Eq.trans ?_ (View.read_writes_apply_of_pieces gM.view f (ringBuf m ρ c) [⟨planeR 1, wv⟩, ⟨planeR 0, wk⟩] ?_ i ?_)
  · exact (congrFun (View.read_whole cc0_scratch0 _) i).symm
  · intro p hp x
    rcases List.mem_cons.mp hp with rfl | hp
    · rw [ringBuf_plane m ρ c 1 x]; exact hv x
    · obtain rfl := List.mem_singleton.mp hp
      rw [ringBuf_plane m ρ c 0 x]; exact hk x
  · obtain ⟨p, hp⟩ := slot0_plane i hi
    fin_cases p
    · exact ⟨_, List.mem_cons_of_mem _ (List.mem_singleton_self _), hp⟩
    · exact ⟨_, List.mem_cons_self, hp⟩

end Cert.RingProof

end
-- ==== Proof.Body.lean ====
/-
The kernel on one device, from its first load to its last store.
-/
module

public import proofs.«01_k».proof.Proof.Steps
public import proofs.«01_k».proof.Proof.Stored

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

omit [FloatOps F] in
/-- The two spellings of running one program after another. -/
theorem bind_eq {α β : Type} (p : Prog (TpuEff nD τ sig (Elt F) Λ₀ .tc) α) (k : α → Prog (TpuEff nD τ sig (Elt F) Λ₀ .tc) β) : p.bind k = p >>= k := rfl

/-- The load of the whole block of keys, -/
theorem read_k (c : Dev nD) :
    View.readAt (Elt F) kM.view (Rect.unit (s := S2x512x8x64) ![0, 0, 0, 0] S2x512x8x64.size inb_S2x512x8x64_S2x512x8x64_0_0_0_0).toLoadRect (kstg m ρ c) = kstg m ρ c :=
  Memref.readAt_unit_zero (Elt F) cc0_stg1_0 (by funext a; fin_cases a <;> rfl) _ _
/-- and of values. -/
theorem read_v (c : Dev nD) :
    View.readAt (Elt F) vM.view (Rect.unit (s := S2x512x8x64) ![0, 0, 0, 0] S2x512x8x64.size inb_S2x512x8x64_S2x512x8x64_0_0_0_0).toLoadRect (vstg m ρ c) = vstg m ρ c :=
  Memref.readAt_unit_zero (Elt F) cc0_stg2_0 (by funext a; fin_cases a <;> rfl) _ _

/-- That a device's own receive semaphore is in its first round may be kept aside. -/
theorem step_reached (c : Dev nD) (t : Fin 3) : stepGhost m ρ K c t ⊢ iprop(stepGhost m ρ K c t ∗ reached ER (recvCell c t) 0) := by
  unfold stepGhost
  iintro ⟨⟨#H1, #H2, #H3, #H4, #H5⟩, Hr⟩
  isplitl
  · isplitr
    · isplitr; · iexact H1
      isplitr; · iexact H2
      isplitr; · iexact H3
      isplitr; · iexact H4
      iexact H5
    iexact Hr
  iexact H5

/-- The two stores leave slot 0 as at the end of the ring, the other slots as they were not. -/
theorem slot0_stored (c : Dev nD) (f : Buf (Elt F) (gM.view.loc (c : Thread nD τ))) (wk wv : S1x1x2x512x8x64.Idx → Elt F .f32)
    (hk : ∀ x, wk x = kstg m ρ c (tail4 ((planeR 0).emb x))) (hv : ∀ x, wv x = vstg m ρ c (tail4 ((planeR 1).emb x))) :
    (gM.view.loc (c : Thread nD τ) ↦{fullShare} gM.view.writes (Elt F) f
        [⟨Rect.unit (s := S4x2x2x512x8x64) ![0, 1, 0, 0, 0, 0] S1x1x2x512x8x64.size inb_S4x2x2x512x8x64_S1x1x2x512x8x64_0_1_0_0_0_0, wv⟩,
          ⟨Rect.unit (s := S4x2x2x512x8x64) ![0, 0, 0, 0, 0, 0] S1x1x2x512x8x64.size inb_S4x2x2x512x8x64_S1x1x2x512x8x64_0_0_0_0_0_0, wk⟩] : sProp 𝕄)
      ⊢ iprop(slotPts c 0 (ringBuf m ρ c) ∗ (∃ f, slotPts c 1 f) ∗ (∃ f, slotPts c 2 f) ∗ (∃ f, slotPts c 3 f)) := by
  change (gM.view.loc (c : Thread nD τ) ↦{fullShare} gM.view.writes (Elt F) f [⟨planeR 1, wv⟩, ⟨planeR 0, wk⟩] : sProp 𝕄) ⊢ _
  refine (Entails.of_eq (slots_eq c _)).trans ?_
  rw [show slotPts c 0 (gM.view.writes (Elt F) f [⟨planeR 1, wv⟩, ⟨planeR 0, wk⟩]) = slotPts (F := F) c 0 (ringBuf m ρ c) from by
    unfold slotPts; exact pointsTo_congr fun i hi => stored_eq m ρ c f wk wv hk hv i hi]
  iintro ⟨H0, H1, H2, H3⟩
  isplitl [H0]; · iexact H0
  isplitl [H1]; · iexists _; iexact H1
  isplitl [H2]; · iexists _; iexact H2
  iexists _; iexact H3

/-- The heads in the order the kernel stores them, the last first. -/
def headIxs : List (Fin 2 × Fin 8) :=
  [(1, 7), (1, 6), (1, 5), (1, 4), (1, 3), (1, 2), (1, 1), (1, 0), (0, 7), (0, 6), (0, 5), (0, 4), (0, 3), (0, 2), (0, 1), (0, 0)]

/-- The sixteen heads as stored, each on its own rows. -/
def headPieces (q : S2x512x8x64.Idx → Elt F .f32) (g : S4x2x2x512x8x64.Idx → Elt F .f32) : List (View.Piece (Elt F) S2x512x8x64 .f32) :=
  headIxs.map fun p => ⟨qR p.1 p.2, head q g p.1 p.2⟩

theorem headPieces_cover (q : S2x512x8x64.Idx → Elt F .f32) (g : S4x2x2x512x8x64.Idx → Elt F .f32) (y : S2x512x8x64.Idx) :
    ∃ p ∈ headPieces q g, y ∈ p.1.set := by
  refine ⟨⟨qR (y (0 : Fin 4)) (y (2 : Fin 4)), head q g (y (0 : Fin 4)) (y (2 : Fin 4))⟩, List.mem_map.mpr ⟨(y (0 : Fin 4), y (2 : Fin 4)), ?_, rfl⟩, ?_⟩
  · have h : ∀ p : Fin 2 × Fin 8, p ∈ headIxs := by decide
    exact h _
  · show y ∈ (qR (y (0 : Fin 4)) (y (2 : Fin 4))).set
    unfold qR
    rw [Rect.mem_set_unit]
    intro a
    have hl := (y a).isLt
    fin_cases a
    · exact ⟨Nat.le_refl _, Nat.lt_succ_self _⟩
    · exact ⟨Nat.zero_le _, by exact (Nat.zero_add _).symm ▸ hl⟩
    · exact ⟨Nat.le_refl _, Nat.lt_succ_self _⟩
    · exact ⟨Nat.zero_le _, by exact (Nat.zero_add _).symm ▸ hl⟩

/-- The heads stored one after another leave the kernel's result. -/
theorem out_stored (c : Dev nD) (fo : Buf (Elt F) (oM.view.loc (c : Thread nD τ))) (Ls : List (View.Piece (Elt F) S2x512x8x64 .f32)) :
    iprop((oM.view.loc (c : Thread nD τ) ↦{fullShare} oM.view.writes (Elt F) fo Ls : sProp 𝕄) ∗ ⌜Ls = headPieces (qstg m ρ c) (ringBuf m ρ c)⌝)
      ⊢ (oM.view.loc (c : Thread nD τ) ↦{fullShare} outAt m ρ c) := by
  iintro ⟨H, %h⟩
  subst h
  rw [show oM.view.writes (Elt F) fo (headPieces (qstg m ρ c) (ringBuf m ρ c)) = outAt m ρ c from ?_]
  · iexact H
  · funext y
    refine (congrFun (View.read_whole cc0_stg3_0 _) y).symm.trans
      (View.read_writes_apply_of_pieces oM.view fo (outAt m ρ c) (headPieces (qstg m ρ c) (ringBuf m ρ c)) ?_ y (headPieces_cover _ _ y))
    intro p hp x
    obtain ⟨⟨bi, hi⟩, -, rfl⟩ := List.mem_map.mp hp
    exact (outOf_emb (qstg m ρ c) (ringBuf m ρ c) bi hi x).symm

/-- What the kernel leaves: the buffer as at the end of the ring, every semaphore at zero, nothing owed, the inputs as they
    were, and its result. -/
def bodyEnd (c : Dev nD) : sProp 𝕄 :=
  iprop(Φ₁ m ρ c ∗ owing c 0
    ∗ (qM.view.loc (c : Thread nD τ) ↦{fullShare} qstg m ρ c)
    ∗ (kM.view.loc (c : Thread nD τ) ↦{fullShare} kstg m ρ c)
    ∗ (vM.view.loc (c : Thread nD τ) ↦{fullShare} vstg m ρ c)
    ∗ (oM.view.loc (c : Thread nD τ) ↦{fullShare} outAt m ρ c))

set_option maxRecDepth 65536 in
set_option maxHeartbeats 4000000 in
/-- The kernel on device `c`: the two stores, the handshake, the three steps of the ring, the sixteen heads. -/
theorem sound_body (c : Dev nD) (Kt : PUnit → sProp 𝕄) (f : Buf (Elt F) (gM.view.loc (c : Thread nD τ)))
    (fo : Buf (Elt F) (oM.view.loc (c : Thread nD τ))) :
    iprop(ghost m ρ K c ∗ creds c ∗ levAts L lv ∗ (gM.view.loc (c : Thread nD τ) ↦{fullShare} f) ∗ owing c (O₀ c)
      ∗ (qM.view.loc (c : Thread nD τ) ↦{fullShare} qstg m ρ c)
      ∗ (kM.view.loc (c : Thread nD τ) ↦{fullShare} kstg m ρ c)
      ∗ (vM.view.loc (c : Thread nD τ) ↦{fullShare} vstg m ρ c)
      ∗ (oM.view.loc (c : Thread nD τ) ↦{fullShare} fo)
      ∗ (bodyEnd m ρ c -∗ Kt ⟨⟩))
      ⊢ wp frame (wpE (defs₀ (F := F)) 𝒱₀ c none) Set.univ (bodyAt0 t₀) Kt := by
  show _ ⊢ wp frame (wpE (defs₀ (F := F)) 𝒱₀ c none) Set.univ (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_scratch0) (Memref.isWhole_whole _) cc0_scratch1 cc0_scratch2) Kt
  unfold ghost creds
  iintro ⟨⟨HgB, Hg0, Hg1, Hg2⟩, ⟨HcB, Hc0, Hc1, Hc2⟩, #Hlev, Hs, HO, Hq, Hk, Hv, Ho, HK⟩
  sl_unfold [cc0_body]
  sl_exec
  ihave Hs' := (slot0_stored m ρ c f (sound_body.sl.v35 m ρ c) (sound_body.sl.v40 m ρ c) (fun x => by unfold sound_body.sl.v35 sound_body.sl.v32; rw [read_k]; exact cast_plane _ 0 x) (fun x => by unfold sound_body.sl.v40 sound_body.sl.v37; rw [read_v]; exact cast_plane _ 1 x)) $$ Hs
  icases Hs' with ⟨Hs0, Hs1, Hs2, Hs3⟩
  icases (step_reached m ρ K c 0) $$ Hg0 with ⟨Hg0, #Hr0⟩
  icases (step_reached m ρ K c 1) $$ Hg1 with ⟨Hg1, #Hr1⟩
  icases (step_reached m ρ K c 2) $$ Hg2 with ⟨Hg2, #Hr2⟩
  rw [← wp_bind, ← wp_bind]
  iapply (wp_bar m ρ K c _ _ (dev1_eq c) (dev2_eq c) rfl rfl rfl rfl rfl rfl)
  isplitl [HgB HcB Hs1 Hs2 Hs3 HO]
  · unfold barPre
    isplitl [HgB]; · iexact HgB
    isplitl [HcB]; · iexact HcB
    isplitr; · iexact Hlev
    isplitl [Hs1 Hs2 Hs3]
    · isplitl [Hs1]
      · isplitl [Hs1]; · iexact Hs1
        iexact Hr0
      isplitl [Hs2]
      · isplitl [Hs2]; · iexact Hs2
        iexact Hr1
      isplitl [Hs3]; · iexact Hs3
      iexact Hr2
    iexact HO
  unfold barPost barPay
  iintro ⟨⟨⟨Hn1, #Hn1r⟩, ⟨Hn2, #Hn2r⟩, ⟨Hn3, #Hn3r⟩⟩, HzB, HO⟩
  rw [bind_eq]
  beta_reduce
  repeat rw [bind_eq]
  sl_exec
  rw [← wp_bind]
  iapply (wp_step m ρ K c _ 0 (dev3_eq c) rfl rfl rfl rfl rfl rfl rfl)
  isplitl [Hg0 Hc0 Hs0 Hn1 HO]
  · unfold stepPre
    isplitl [Hg0]; · iexact Hg0
    isplitl [Hc0]; · iexact Hc0
    isplitr; · iexact Hlev
    isplitl [Hs0]; · iexact Hs0
    isplitl [Hn1]; · iexact Hn1
    isplitr; · iexact Hn1r
    iexact HO
  unfold stepPost
  iintro ⟨Hs0, Hs1, HzS0, HzR0, HO⟩
  rw [bind_eq]
  beta_reduce
  repeat rw [bind_eq]
  sl_exec
  rw [← wp_bind]
  iapply (wp_step m ρ K c _ 1 (dev4_eq c) rfl rfl rfl rfl rfl rfl rfl)
  isplitl [Hg1 Hc1 Hs1 Hn2 HO]
  · unfold stepPre
    isplitl [Hg1]; · iexact Hg1
    isplitl [Hc1]; · iexact Hc1
    isplitr; · iexact Hlev
    isplitl [Hs1]; · iexact Hs1
    isplitl [Hn2]; · iexact Hn2
    isplitr; · iexact Hn2r
    iexact HO
  unfold stepPost
  iintro ⟨Hs1, Hs2, HzS1, HzR1, HO⟩
  rw [bind_eq]
  beta_reduce
  repeat rw [bind_eq]
  sl_exec
  rw [← wp_bind]
  iapply (wp_step m ρ K c _ 2 (dev5_eq c) rfl rfl rfl rfl rfl rfl rfl)
  isplitl [Hg2 Hc2 Hs2 Hn3 HO]
  · unfold stepPre
    isplitl [Hg2]; · iexact Hg2
    isplitl [Hc2]; · iexact Hc2
    isplitr; · iexact Hlev
    isplitl [Hs2]; · iexact Hs2
    isplitl [Hn3]; · iexact Hn3
    isplitr; · iexact Hn3r
    iexact HO
  unfold stepPost
  iintro ⟨Hs2, Hs3, HzS2, HzR2, HO⟩
  rw [bind_eq]
  beta_reduce
  repeat rw [bind_eq]
  ihave Hs := (show _ ⊢ (gM.view.loc (c : Thread nD τ) ↦{fullShare} ringBuf m ρ c : sProp 𝕄) from Entails.of_eq (slots_eq c (ringBuf m ρ c)).symm) $$ [Hs0 Hs1 Hs2 Hs3]
  · isplitl [Hs0]; · iexact Hs0
    isplitl [Hs1]; · iexact Hs1
    isplitl [Hs2]; · iexact Hs2
    iexact Hs3
  sl_exec
  sl_step
  iapply HK
  unfold bodyEnd Φ₁
  isplitl [Hs HzS0 HzS1 HzS2 HzR0 HzR1 HzR2 HzB]
  · isplitl [Hs]; · iexact Hs
    isplitr [HzB]
    · isplitl [HzS0]; · iexact HzS0
      isplitl [HzS1]; · iexact HzS1
      isplitl [HzS2]; · iexact HzS2
      isplitl [HzR0]; · iexact HzR0
      isplitl [HzR1]; · iexact HzR1
      iexact HzR2
    iexact HzB
  isplitl [HO]; · iexact HO
  isplitl [Hq]; · iexact Hq
  isplitl [Hk]; · iexact Hk
  isplitl [Hv]; · iexact Hv
  iapply (out_stored m ρ c fo)
  isplitl [Ho]; · iexact Ho
  ipureintro
  rfl

end Cert.RingProof

end
-- ==== Proof.Call.lean ====
/-
The kernel within its launch: the launch's promise of the body, the ghost state dealt to the devices, and the run of the
whole program on the sixteen devices.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer `b` of device `c` holding `X`. -/
abbrev stg (c : Dev nD) (b : Ref sig .tc) (X : b.ty.Contents (Elt F)) : sProp 𝕄 := iprop(∃ f : Buf (Elt F) ((c : Thread nD τ).loc b), ⌜f = X⌝ ∗ (((c : Thread nD τ).loc b) ↦{fullShare} f))

/-- What the kernel's call starts from on device `c`, -/
def callPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- and what it ends with. -/
def callPost (c : Dev nD) : sProp 𝕄 :=
  iprop(Φ₁ m ρ c ∗ (dats m ρ 0 c).owesAt () t₀.succ
    ∗ stg c cc0_stg0_0 (qstg m ρ c) ∗ stg c cc0_stg1_0 (kstg m ρ c) ∗ stg c cc0_stg2_0 (vstg m ρ c) ∗ stg c cc0_stg3_0 (outAt m ρ c))

theorem before_q (c : Dev nD) (d) : (dats (F := F) m ρ 0 c).before (0 : Fin 4) t₀ d = qstg m ρ c := by
  unfold Dat.before; rw [if_pos (fetch0_0 t₀)]; rfl
theorem before_k (c : Dev nD) (d) : (dats (F := F) m ρ 0 c).before (1 : Fin 4) t₀ d = kstg m ρ c := by
  unfold Dat.before; rw [if_pos (fetch0_1 t₀)]; rfl
theorem before_v (c : Dev nD) (d) : (dats (F := F) m ρ 0 c).before (2 : Fin 4) t₀ d = vstg m ρ c := by
  unfold Dat.before; rw [if_pos (fetch0_2 t₀)]; rfl

theorem body_end (c : Dev nD) : bodyEnd m ρ c ⊢ callPost m ρ c := by
  unfold bodyEnd callPost Dat.owesAt Pipeline.owesWithin owing
  rw [show (dats m ρ 0 c).owed t₀.succ = 0 from rfl]
  iintro ⟨HΦ, ⟨%W, HO⟩, Hq, Hk, Hv, Ho⟩
  isplitl [HΦ]; · iexact HΦ
  isplitl [HO]
  · iexists W
    isplitr; · ipureintro; exact fun _ _ => Or.inl trivial
    iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists _; isplitr; · (ipureintro; rfl)
  iexact Ho

set_option maxRecDepth 4000 in
theorem call_body (c : Dev nD) :
    callPre m ρ c ⊢ wp frame (wpE (defs₀ (F := F)) 𝒱₀ (c : Thread nD τ) none) Set.univ (bodyAt0 (F := F) t₀) (fun _ => callPost m ρ c) := by
  unfold callPre Φ₀ start Dat.owesAt Pipeline.owesWithin
  rw [show (dats m ρ 0 c).owed t₀.castSucc = O₀ c from rfl]
  iintro ⟨⟨⟨⟨%K, Hg⟩, Hc, Hlev⟩, ⟨%f, Hs⟩⟩, ⟨%W, %hW, HO⟩, ⟨%dq, %fq, %hq, Hq⟩, ⟨%dk, %fk, %hk, Hk⟩, ⟨%dv, %fv, %hv, Hv⟩, ⟨%dO, %fo, %ho, Ho⟩⟩
  rw [before_q] at hq; rw [before_k] at hk; rw [before_v] at hv
  subst hq hk hv
  iapply (sound_body m ρ K c (fun _ => callPost m ρ c) f fo)
  isplitl [Hg]; · iexact Hg
  isplitl [Hc]; · iexact Hc
  isplitl [Hlev]; · iexact Hlev
  isplitl [Hs]; · iexact Hs
  isplitl [HO]; · unfold owing; iexists W; iexact HO
  isplitl [Hq]; · iexact Hq
  isplitl [Hk]; · iexact Hk
  isplitl [Hv]; · iexact Hv
  isplitl [Ho]; · iexact Ho
  iintro H
  iapply (body_end m ρ c)
  iexact H

set_option maxRecDepth 65536 in
/-- The launch's obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show callPre m ρ c ⊢ wp frame (wpE (defs₀ (F := F)) 𝒱₀ (c : Thread nD τ) none) Set.univ (bodyAt0 (F := F) t₀) (fun _ => callPost m ρ c)
  exact call_body m ρ c

end Cert.RingProof

end
-- ==== Proof.Launch.lean ====
/-
The launch: the ghost state of the seven semaphores of every device is made and dealt out along the rings, the launch's own
conditions are met, and the whole program runs on the sixteen devices.
-/
module

public import proofs.«01_k».proof.Proof.Call
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The semaphores and the duties of all devices -/

theorem ownSemFacts : Pipeline.OwnSemFacts cfg0.spec osem := by decide

theorem csem_injective : Function.Injective (csem : Fin 7 → SemLoc sig) := by
  intro k k' h; revert h; revert k k'; decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- The eight duties at a device's own semaphores: two at its barrier, one at each of the other six. -/
def dutyIx (j : Fin 8) : Fin 7 × Bool := (⟨j.val - 1, by omega⟩, decide (j = 1))

theorem dutyIx_injective : Function.Injective dutyIx := by
  intro j j' h; revert h; revert j j'; decide

abbrev tokOf (cj : Dev nD × Fin 8) : GSem nD τ sig × ℕ × Bool := (kcell (cj.1, (dutyIx cj.2).1), 0, (dutyIx cj.2).2)

theorem tokOf_injective : Function.Injective (tokOf : Dev nD × Fin 8 → GSem nD τ sig × ℕ × Bool) := by
  rintro ⟨c, j⟩ ⟨c', j'⟩ h
  have h1 := kcell_injective (congrArg Prod.fst h)
  have h2 : j = j' := dutyIx_injective (Prod.ext (congrArg Prod.snd h1) (congrArg (fun x : GSem nD τ sig × ℕ × Bool => x.2.2) h))
  rw [show c = c' from congrArg Prod.fst h1, h2]

def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of the duties at device `c`'s own semaphores. -/
def toks (c : Dev nD) : sProp 𝕄 :=
  iprop(dutyTok ER (barCell c) 0 false ∗ dutyTok ER (barCell c) 0 true
    ∗ (bigSep Finset.univ fun t : Fin 3 => dutyTok ER (sendCell c t) 0 false)
    ∗ (bigSep Finset.univ fun t : Fin 3 => dutyTok ER (recvCell c t) 0 false))

/-- The tokens of the duties device `c` pays: one at each neighbour's barrier, its own sends, its next device's receives. -/
def payToks (c : Dev nD) : sProp 𝕄 :=
  iprop(dutyTok ER (barCell (nxt c)) 0 false ∗ dutyTok ER (barCell (prv c)) 0 true
    ∗ (bigSep Finset.univ fun t : Fin 3 => dutyTok ER (sendCell c t) 0 false)
    ∗ (bigSep Finset.univ fun t : Fin 3 => dutyTok ER (recvCell (nxt c) t) 0 false))

omit [FloatOps F] in
/-- The tokens dealt around the rings. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv turn (fun c : Dev nD => (dutyTok ER (barCell c) 0 false : sProp 𝕄)),
    bigSep_univ_equiv turn.symm (fun c : Dev nD => (dutyTok ER (barCell c) 0 true : sProp 𝕄)),
    bigSep_univ_equiv turn (fun c : Dev nD => (bigSep Finset.univ fun t : Fin 3 => dutyTok ER (recvCell c t) 0 false : sProp 𝕄))]
  exact Entails.refl _

/-- What the launch deals device `c`. -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0)) ∗ toks c)

/-- What the devices make of it together. -/
def G' (c : Dev nD) : sProp 𝕄 := iprop(∃ K, ghost m ρ K c)

omit [FloatOps F] in
theorem toks_intro (c : Dev nD) :
    (bigSep Finset.univ fun j : Fin 8 => dutyTok ER (tokOf (c, j)).1 (tokOf (c, j)).2.1 (tokOf (c, j)).2.2 : sProp 𝕄) ⊢ toks c := by
  unfold toks; rw [bigSep_fin8, bigSep_fin3, bigSep_fin3]
  iintro ⟨H0, H1, H2, H3, H4, H5, H6, H7⟩
  isplitl [H0]; · iexact H0
  isplitl [H1]; · iexact H1
  isplitl [H2 H3 H4]
  · isplitl [H2]; · iexact H2
    isplitl [H3]; · iexact H3
    iexact H4
  isplitl [H5]; · iexact H5
  isplitl [H6]; · iexact H6
  iexact H7

omit [FloatOps F] in
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores' invariants -/

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
      ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨HO, HB⟩
  isplitl [HB]; · iexact HB
  iexact HO

omit [FloatOps F] in
/-- One device's semaphores, at zero, become the invariants of the protocol. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hrest⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  iexact Hrest

/-- What everyone may know: the invariants of all semaphores, and that each is in its first round. -/
def records (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem record_at (K : Dev nD × Fin 7 → ℕ) (ck : Dev nD × Fin 7) (g : GSem nD τ sig) (hg : kcell ck = g) :
    (records m ρ K : sProp 𝕄) ⊢ iprop(cellInv ER (rd m ρ) (K ck) g ∗ reached ER g 0) := by
  subst hg
  unfold records
  iintro ⟨HI, HR⟩
  isplitl [HI]
  · iapply (show (bigSep Finset.univ fun ck : Dev nD × Fin 7 => (cellInv ER (rd m ρ) (K ck) (kcell ck) : sProp 𝕄)) ⊢ cellInv ER (rd m ρ) (K ck) (kcell ck)
      from bigSep_elim (Finset.mem_univ ck))
    iexact HI
  · iapply (show (bigSep Finset.univ fun ck : Dev nD × Fin 7 => (reached ER (kcell ck) 0 : sProp 𝕄)) ⊢ reached ER (kcell ck) 0
      from bigSep_elim (Finset.mem_univ ck))
    iexact HR

omit [FloatOps F] in
/-- The ghost state of the handshake, put together. -/
theorem bar_intro (K : Dev nD × Fin 7 → ℕ) (c : Dev nD) :
    iprop(records m ρ K ∗ atPos ER (barCell c) 0 ∅ 0 ∗ dutyTok ER (barCell (nxt c)) 0 false ∗ dutyTok ER (barCell (prv c)) 0 true)
      ⊢ barGhost m ρ K c := by
  unfold barGhost
  iintro ⟨#HR, Hrest⟩
  ihave #Hc := (record_at m ρ K (c, 0) (barCell c) rfl) $$ HR
  ihave #Hn := (record_at m ρ K (nxt c, 0) (barCell (nxt c)) rfl) $$ HR
  ihave #Hp := (record_at m ρ K (prv c, 0) (barCell (prv c)) rfl) $$ HR
  icases Hc with ⟨HIc, -⟩
  icases Hn with ⟨HIn, HRn⟩
  icases Hp with ⟨HIp, HRp⟩
  isplitr [Hrest]
  · isplitr; · iexact HIc
    isplitr; · iexact HIn
    isplitr; · iexact HIp
    isplitr; · iexact HRn
    iexact HRp
  iexact Hrest

omit [FloatOps F] in
/-- The ghost state of one step, put together. -/
theorem step_intro (K : Dev nD × Fin 7 → ℕ) (c : Dev nD) (t : Fin 3) :
    iprop(records m ρ K ∗ atPos ER (kcell (c, sIx t)) 0 ∅ 0 ∗ atPos ER (kcell (c, rIx t)) 0 ∅ 0
        ∗ dutyTok ER (recvCell (nxt c) t) 0 false ∗ dutyTok ER (sendCell c t) 0 false)
      ⊢ stepGhost m ρ K c t := by
  unfold stepGhost
  rw [kcell_send, kcell_recv]
  iintro ⟨#HR, Hrest⟩
  ihave #Hs := (record_at m ρ K (c, sIx t) (sendCell c t) (kcell_send c t)) $$ HR
  ihave #Hr := (record_at m ρ K (c, rIx t) (recvCell c t) (kcell_recv c t)) $$ HR
  ihave #Hn := (record_at m ρ K (nxt c, rIx t) (recvCell (nxt c) t) (kcell_recv (nxt c) t)) $$ HR
  icases Hs with ⟨HIs, HRs⟩
  icases Hr with ⟨HIr, HRr⟩
  icases Hn with ⟨HIn, -⟩
  isplitr [Hrest]
  · isplitr; · iexact HIs
    isplitr; · iexact HIr
    isplitr; · iexact HIn
    isplitr; · iexact HRs
    iexact HRr
  iexact Hrest

/-- What is device `c`'s alone: its places at its own semaphores, and the tokens of the duties it pays. -/
def linear (c : Dev nD) : sProp 𝕄 := iprop((bigSep Finset.univ fun k : Fin 7 => atPos ER (kcell (c, k)) 0 ∅ 0) ∗ payToks c)

omit [FloatOps F] in
theorem ghost_intro (K : Dev nD × Fin 7 → ℕ) (c : Dev nD) : iprop(records m ρ K ∗ linear c) ⊢ G' m ρ c := by
  unfold linear payToks G' ghost
  rw [bigSep_fin7, bigSep_fin3, bigSep_fin3]
  iintro ⟨#HR, ⟨HaB, HaS0, HaS1, HaS2, HaR0, HaR1, HaR2⟩, HtN, HtP, ⟨HtS0, HtS1, HtS2⟩, HtR0, HtR1, HtR2⟩
  iexists K
  isplitl [HaB HtN HtP]
  · iapply (bar_intro m ρ K c)
    isplitr; · iexact HR
    isplitl [HaB]; · iexact HaB
    isplitl [HtN] <;> iassumption
  isplitl [HaS0 HaR0 HtR0 HtS0]
  · iapply (step_intro m ρ K c 0)
    isplitr; · iexact HR
    isplitl [HaS0]; · iexact HaS0
    isplitl [HaR0]; · iexact HaR0
    isplitl [HtR0] <;> iassumption
  isplitl [HaS1 HaR1 HtR1 HtS1]
  · iapply (step_intro m ρ K c 1)
    isplitr; · iexact HR
    isplitl [HaS1]; · iexact HaS1
    isplitl [HaR1]; · iexact HaR1
    isplitl [HtR1] <;> iassumption
  iapply (step_intro m ρ K c 2)
  isplitr; · iexact HR
  isplitl [HaS2]; · iexact HaS2
  isplitl [HaR2]; · iexact HaR2
  isplitl [HtR2] <;> iassumption

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- Everyone's invariants become common knowledge, everyone's tokens go to those who pay. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · unfold linear
    rw [bigSep_sep']
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem dev_of_cell {a b : Dev nD} {s s' : SemLoc sig} (h : ((a : Thread nD τ), s) = ((b : Thread nD τ), s')) : a = b :=
  congrArg (fun g : GSem nD τ sig => g.1.1) h

theorem eq_nxt_iff (d c : Dev nD) : c = nxt d ↔ d = prv c :=
  ⟨fun h => by rw [h, prv_nxt], fun h => by rw [h, nxt_prv]⟩
theorem eq_prv_iff (d c : Dev nD) : c = prv d ↔ d = nxt c :=
  ⟨fun h => by rw [h, nxt_prv], fun h => by rw [h, prv_nxt]⟩

theorem tally_bar (a c : Dev nD) : tallyAt (barCell a) () 1 (barCell c) () = if c = a then 1 else 0 := by
  rw [tallyAt_apply]
  by_cases h : c = a
  · subst h; rw [if_pos ⟨rfl, rfl⟩, if_pos rfl]
  · rw [if_neg fun h' => h (dev_of_cell h'.1), if_neg h]

theorem tally_recv (a c : Dev nD) (u t : Fin 3) : tallyAt (recvCell a u) () N (recvCell c t) () = if u = t ∧ c = a then N else 0 := by
  rw [tallyAt_apply]
  by_cases h : u = t ∧ c = a
  · rw [if_pos h, h.1, h.2, if_pos ⟨rfl, rfl⟩]
  · rw [if_neg h, if_neg fun h' => h ⟨(recv_inj t u (congrArg Prod.snd h'.1)).symm, dev_of_cell h'.1⟩]

theorem left_bar (d c : Dev nD) : left d 0 (barCell c) () = 0 := by
  by_contra h
  obtain ⟨t, -, ht⟩ := left_pos (Nat.pos_of_ne_zero h)
  exact recv_ne_bar t (congrArg Prod.snd ht).symm

theorem left_recv (d c : Dev nD) (t : Fin 3) : left d 0 (recvCell c t) () = if d = prv c then N else 0 := by
  show (((0 + tallyAt (recvCell (nxt d) 2) () N) + tallyAt (recvCell (nxt d) 1) () N) + tallyAt (recvCell (nxt d) 0) () N : CellTallies nD τ sig Unit) (recvCell c t) () = _
  simp only [Pi.add_apply, Finsupp.add_apply, Pi.zero_apply, Finsupp.zero_apply, Nat.zero_add]
  rw [tally_recv, tally_recv, tally_recv]
  simp only [eq_nxt_iff]
  by_cases h : d = prv c <;> fin_cases t <;> simp [h]

theorem owed_bar (d c : Dev nD) : O₀ d (barCell c) () = (if d = prv c then 1 else 0) + (if d = nxt c then 1 else 0) := by
  unfold O₀ O₁
  rw [Pi.add_apply, Finsupp.add_apply, Pi.add_apply, Finsupp.add_apply, left_bar, tally_bar, tally_bar, Nat.zero_add]
  rw [if_congr (eq_nxt_iff d c) rfl rfl, if_congr (eq_prv_iff d c) rfl rfl]

theorem owed_recv (d c : Dev nD) (t : Fin 3) : O₀ d (recvCell c t) () = if d = prv c then N else 0 := by
  unfold O₀ O₁
  rw [Pi.add_apply, Finsupp.add_apply, Pi.add_apply, Finsupp.add_apply, left_recv, tallyAt_ne_cell (fun h => recv_ne_bar t (congrArg Prod.snd h)),
    tallyAt_ne_cell (fun h => recv_ne_bar t (congrArg Prod.snd h)), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (t : Fin 3) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (prv c) fun _ => N,
    if_pos (Finset.mem_univ _)]

omit [FloatOps F] in
theorem creds_of (c : Dev nD) :
    (bigSep Finset.univ fun k : Fin 7 => cred (tallyOn (kcell (c, k)) (launchCredit (Pipeline.owing O₀) 0 (kcell (c, k)))) : sProp 𝕄) ⊢ creds c := by
  unfold creds
  rw [bigSep_fin7, ← launch_bar, ← launch_recv, ← launch_recv, ← launch_recv]
  iintro ⟨HB, -, -, -, H0, H1, H2⟩
  isplitl [HB]; · iexact HB
  isplitl [H0]; · iexact H0
  isplitl [H1]; · iexact H1
  iexact H2

omit [FloatOps F] in
/-- The credits a device waits with, out of all that the devices owe it. -/
theorem creds_intro (c : Dev nD) : (Pipeline.launchCred O₀ c : sProp 𝕄) ⊢ creds c := by
  unfold Pipeline.launchCred
  refine (bigSep_subset (t := Finset.univ.map ⟨csem, csem_injective⟩) (Finset.subset_univ _)).trans ?_
  rw [bigSep_map]
  exact creds_of c

/-! ## The launch's conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HO, HzB⟩
  isplitl [HzB]; · iexact HzB
  isplitl [HO]; · iexact HO
  iexists _; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- The arrays of the call on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair run of the sixteen devices, from any memory with all counters at zero, ends; at its end every device's
    arrays are `finalA` and every counter is at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays end as they were. -/
theorem finalA_in (c : Dev nD) (w : Fin 4) (hw : (cfg0.win w).isOut = false) :
    finalA m ρ c w = m ((cfg0.win w).arr.view.loc (c : Thread nD τ)) :=
  (dats (F := F) m ρ 0 c).arrAt_in w hw _

end Cert.RingProof

end
-- ==== Proof.Run.lean ====
/-
The run read at the program's own arrays: the arguments as they were, the result the attention of the device's ring.
-/
module

public import proofs.«01_k».proof.Proof.Launch
public import Idealize.ShloMosaic.Lib.Pipeline.ValueKit

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's block of the queries is its first argument, -/
theorem qstg_eq (c : Dev nD) : qstg m ρ c = m ((c : Thread nD τ).loc main_arg0) := by
  funext y
  refine congrArg (m ((c : Thread nD τ).loc main_arg0)) (funext fun a => Fin.ext ?_)
  have h := Pipeline.Window.rect_emb_val win0_0 (0 : Fin 1) y a rfl
  refine h.trans ?_
  fin_cases a <;> exact Nat.zero_add _

/-- of the keys its second, -/
theorem kstg_eq (c : Dev nD) : kstg m ρ c = m ((c : Thread nD τ).loc main_arg1) := by
  funext y
  refine congrArg (m ((c : Thread nD τ).loc main_arg1)) (funext fun a => Fin.ext ?_)
  have h := Pipeline.Window.rect_emb_val win0_1 (0 : Fin 1) y a rfl
  refine h.trans ?_
  fin_cases a <;> exact Nat.zero_add _

/-- of the values its third. -/
theorem vstg_eq (c : Dev nD) : vstg m ρ c = m ((c : Thread nD τ).loc main_arg2) := by
  funext y
  refine congrArg (m ((c : Thread nD τ).loc main_arg2)) (funext fun a => Fin.ext ?_)
  have h := Pipeline.Window.rect_emb_val win0_2 (0 : Fin 1) y a rfl
  refine h.trans ?_
  fin_cases a <;> exact Nat.zero_add _

/-- The result's array at the end. -/
theorem finalA_out (c : Dev nD) : finalA m ρ c (3 : Fin 4) = outAt m ρ c := by
  refine (dats m ρ 0 c).arrAt_eq_of_after_last (3 : Fin 4) t₀ (by decide +kernel) _ fun j => ?_
  blk_simp
  rfl

/-- The whole program on the sixteen devices. -/
theorem run : θ_run defs (onTc (τ := τ) (main (F := F))) (st₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono
    (fun _ h => ⟨fun c => ⟨(h.1 c (3 : Fin 4)).trans (finalA_out m ρ c), (h.1 c (0 : Fin 4)).trans (finalA_in m ρ c (0 : Fin 4) rfl),
      (h.1 c (1 : Fin 4)).trans (finalA_in m ρ c (1 : Fin 4) rfl), (h.1 c (2 : Fin 4)).trans (finalA_in m ρ c (2 : Fin 4) rfl)⟩, h.2⟩)
    (run_main m ρ)

end Cert.RingProof

end
-- ==== Proof.Frames.lean ====
/-
The three programs' frames: each runs to its end, leaves its arguments as they were and every counter at zero. The kernel
as printed and its idealization are the same text, so the kernel's run is the idealization's at the machine's floats.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.RingProof

open Idealize.ShloMosaic Idealize.SL.Sem

variable (F : FTy → Type) [FloatOps F]

/-- The kernel's one region is the idealization's, -/
theorem defs0_eq : Cert.Kernel.defs₀ (F := F) = Cert.KernelIdeal.defs₀ (F := F) := by
  refine congrArg (Defs.onTc (nD := Cert.KernelIdeal.nD) (τ := Cert.KernelIdeal.τ) (sig := Cert.KernelIdeal.sig))
    (funext fun l => funext fun a => ?_)
  match l, a with
  | ⟨0, _⟩, (t, s) => rfl
  | ⟨_ + 1, h⟩, _ => exact absurd h (Nat.not_lt.2 (Nat.le_add_left _ _))

/-- and so are its definitions. -/
theorem defs_eq : Cert.Kernel.defs (F := F) = Cert.KernelIdeal.defs (F := F) :=
  congrArg (Pipeline.defs (Cert.KernelIdeal.pcfgs (F := F))) (defs0_eq F)

/-- The kernel ends, its arguments unchanged and every counter at zero. -/
theorem frame_kernel : Cert.quiescent_Kernel := fun m ρ _ => by
  have h := run (F := Bits) m ρ
  rw [← defs_eq] at h
  exact (θ_run (Cert.Kernel.defs (F := Bits)) _ _).mono (fun _ h => ⟨fun c => (h.1 c).2, h.2⟩) h

/-- So it does in exact arithmetic, -/
theorem frame_kernelIdeal : Cert.quiescent_KernelIdeal := fun m ρ _ =>
  (θ_run Cert.KernelIdeal.defs _ _).mono (fun _ h => ⟨fun c => (h.1 c).2, h.2⟩) (run (F := Ideal) m ρ)

/-- and so does the reference. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.RingProof

end
-- ==== Proof.Attend.lean ====
/-
Softmax attention of one query row, over any set of key positions, and what the kernel computes of one head as such an
attention, over the pairs (slot, row of the slot).
-/
module

public import proofs.«01_k».proof.Proof.Head
public import Idealize.ShloMosaic.Lib.Pointwise
public import Idealize.ShloMosaic.PureOps.Ideal

@[expose] public section

noncomputable section

namespace Cert.RingProof

open Cert.KernelIdeal Cert.KernelIdeal.Gen
open Idealize.ShloMosaic

/-! ## Attention over any positions -/

/-- The largest score of a row, -/
def top {ι : Type} [Fintype ι] (s : ι → EReal) : EReal := Finset.univ.fold max (Ideal.ofBits FTy.f32 0xFF800000#32) s
/-- the weight of a position, -/
def weight {ι : Type} [Fintype ι] (s : ι → EReal) (n : ι) : EReal :=
  Ideal.div (Ideal.exp (s n - top s)) (∑ x, Ideal.exp (s x - top s))
/-- and the sum of the values under these weights. -/
def attend {ι : Type} [Fintype ι] (s v : ι → EReal) : EReal := ∑ n, weight s n * v n

/-- The largest score does not depend on the order of the positions, -/
theorem top_comp {ι κ : Type} [Fintype ι] [Fintype κ] (e : ι ≃ κ) (s : κ → EReal) : top (fun n => s (e n)) = top s := by
  unfold top
  rw [← Finset.map_univ_equiv e, Finset.fold_map]
  rfl
/-- nor does a position's weight, -/
theorem weight_comp {ι κ : Type} [Fintype ι] [Fintype κ] (e : ι ≃ κ) (s : κ → EReal) (n : ι) :
    weight (fun n => s (e n)) n = weight s (e n) := by
  unfold weight
  rw [top_comp e s]
  exact congrArg _ (Equiv.sum_comp e fun x => Ideal.exp (s x - top s))
/-- nor does the attention. -/
theorem attend_comp {ι κ : Type} [Fintype ι] [Fintype κ] (e : ι ≃ κ) (s v : κ → EReal) :
    attend (fun n => s (e n)) (fun n => v (e n)) = attend s v := by
  unfold attend
  rw [← Equiv.sum_comp e]
  exact Finset.sum_congr rfl fun n _ => congrArg (· * v (e n)) (weight_comp e s n)

/-! ## One head of the kernel -/

/-- Column `512 j + x` of the scores belongs to row `x` of slot `j`. -/
abbrev col : Fin 4 × Fin 512 ≃ Fin 2048 := finProdFinEquiv (m := 4) (n := 512)

/-- The scores of row `r`: against row `x` of slot `j`, the scaled inner product with that slot's key. -/
theorem pay5_at (q : Vec Ideal S1x512x1x64 .f32) (k : Fin 4 → Vec Ideal S1x1x1x512x1x64 .f32) (r : Fin 512)
    (j : Fin 4) (x : Fin 512) :
    k0_pay5 q (k 0) (k 1) (k 2) (k 3) (ix2 r (col (j, x)))
      = (∑ e, q (ix4 0 r 0 e) * k j (ix6 0 0 0 x 0 e)) * Ideal.ofBits FTy.f32 0x3E000000#32 := by
  have hx := x.isLt
  have hj := j.isLt
  have hv : (col (j, x)).val = x.val + 512 * j.val := rfl
  have key : ∀ (t : Fin 4) (y : Fin 512), t.val = j.val → y.val = x.val →
      ∑ e, q (ix4 0 r 0 e) * k t (ix6 0 0 0 y 0 e) = ∑ e, q (ix4 0 r 0 e) * k j (ix6 0 0 0 x 0 e) := by
    intro t y ht hy; rw [Fin.ext ht, Fin.ext hy]
  pointwise [k0_pay5]
  refine congrArg (· * _) ?_
  by_cases h0 : (col (j, x)).val < 512
  · rw [dif_pos h0]; exact key 0 _ (by show 0 = j.val; omega) (by show (col (j, x)).val = x.val; omega)
  rw [dif_neg h0]
  by_cases h1 : (col (j, x)).val - 512 < 512
  · rw [dif_pos h1]; exact key 1 _ (by show 1 = j.val; omega) (by show (col (j, x)).val - 512 = x.val; omega)
  rw [dif_neg h1]
  by_cases h2 : (col (j, x)).val - 512 - 512 < 512
  · rw [dif_pos h2]; exact key 2 _ (by show 2 = j.val; omega) (by show (col (j, x)).val - 512 - 512 = x.val; omega)
  rw [dif_neg h2]
  exact key 3 _ (by show 3 = j.val; omega) (by show (col (j, x)).val - 512 - 512 - 512 = x.val; omega)

/-- The weights of row `r`. -/
theorem pay6_at (s : FVec Ideal S512x2048 .f32) (r : Fin 512) (n : Fin 2048) :
    k0_pay6 s (ix2 r n) = weight (fun n => s (ix2 r n)) n := by
  pointwise [k0_pay6]
  rfl

/-- The head's result: the four slots' values under the weights. -/
theorem pay9_at (s : FVec Ideal S512x2048 .f32) (v : Fin 4 → Vec Ideal S1x1x1x512x1x64 .f32) (r : Fin 512) (d : Fin 64) :
    k0_pay9 (k0_pay7 s (v 0) (v 1) (v 2)) (k0_pay8 s (v 3)) (ix4 0 r 0 d)
      = ∑ j, ∑ x, k0_pay6 s (ix2 r (col (j, x))) * v j (ix6 0 0 0 x 0 d) := by
  pointwise [k0_pay7, k0_pay8, k0_pay9]
  rw [Fin.sum_univ_four]
  have key : ∀ (j : Fin 4) (n : Fin 512 → Fin 2048), (∀ x, (n x).val = 512 * j.val + x.val) →
      ∑ x, k0_pay6 s (ix2 r (n x)) * v j (ix6 0 0 0 x 0 d) = ∑ x, k0_pay6 s (ix2 r (col (j, x))) * v j (ix6 0 0 0 x 0 d) :=
    fun j n hn => Finset.sum_congr rfl fun x _ =>
      congrArg (fun y => k0_pay6 s (ix2 r y) * v j (ix6 0 0 0 x 0 d)) (Fin.ext ((hn x).trans (Nat.add_comm _ _)))
  exact congrArg₂ (· + ·) (congrArg₂ (· + ·) (congrArg₂ (· + ·) (key 0 _ fun x => (Nat.zero_add _).symm)
    (key 1 _ fun x => rfl)) (key 2 _ fun x => rfl)) (key 3 _ fun x => rfl)

/-- One head is the attention of its query row over the rows of the four slots. -/
theorem headOf_at (q : Vec Ideal S1x512x1x64 .f32) (k v : Fin 4 → Vec Ideal S1x1x1x512x1x64 .f32) (r : Fin 512) (d : Fin 64) :
    headOf q k v (ix4 0 r 0 d)
      = attend (fun p : Fin 4 × Fin 512 => (∑ e, q (ix4 0 r 0 e) * k p.1 (ix6 0 0 0 p.2 0 e)) * Ideal.ofBits FTy.f32 0x3E000000#32)
          (fun p => v p.1 (ix6 0 0 0 p.2 0 d)) := by
  unfold headOf
  rw [pay9_at, ← Fintype.sum_prod_type']
  refine Finset.sum_congr rfl fun p _ => congrArg (· * _) ?_
  rw [pay6_at, ← weight_comp col]
  exact congrArg (fun s => weight s p) (funext fun p => pay5_at q k r p.1 p.2)

end Cert.RingProof

end
-- ==== Proof.RefValue.lean ====
/-
The reference's result at an index: the attention of that query row over all 2048 key rows.
-/
module

public import proofs.«01_k».proof.Proof.Attend
public import proofs.«01_k».proof.Proof.Gen.ReferenceIdeal.Run

@[expose] public section

noncomputable section

namespace Cert.RingProof

open Cert.ReferenceIdeal Cert.ReferenceIdeal.Gen
open Idealize.ShloMosaic

/-- The reference's scaled scores, -/
def refScore (q k : FVec Ideal S2x2048x8x64 .f32) : FVec Ideal S2x8x2048x2048 .f32 :=
  mulf (Host.dotGeneral dot_S2x2048x8x64_S2x2048x8x64_S2x8x2048x2048_3_3_1_1_02_02 none q k)
    (broadcastInDim S2x8x2048x2048 ![] bcast_S_S2x8x2048x2048 (constant S_ .f32 0x3E000000#32))
/-- a number of each row spread over the row, -/
def spread (x : FVec Ideal S2x8x2048 .f32) : FVec Ideal S2x8x2048x2048 .f32 :=
  broadcastInDim S2x8x2048x2048 ![0, 1, 2, 3] bcast_S2x8x2048x1_S2x8x2048x2048_0_1_2_3
    (broadcastInDim S2x8x2048x1 ![0, 1, 2] bcast_S2x8x2048_S2x8x2048x1_0_1_2 x)
/-- the exponentials of the scores less their row's largest, -/
def refExp (s : FVec Ideal S2x8x2048x2048 .f32) : FVec Ideal S2x8x2048x2048 .f32 :=
  Host.exp (subf s (spread (Host.reduce FloatOps.maximumf s (constant S_ .f32 0xFF800000#32) reducesTo_S2x8x2048x2048_S2x8x2048_d3 h_S_)))
/-- the weights -/
def refWeight (e : FVec Ideal S2x8x2048x2048 .f32) : FVec Ideal S2x8x2048x2048 .f32 :=
  Host.divf e (spread (Host.reduceAdd e (constant S_ .f32 0x00000000#32) reducesTo_S2x8x2048x2048_S2x8x2048_d3 h_S_))
/-- and the result. -/
def refOf (q k v : FVec Ideal S2x2048x8x64 .f32) : FVec Ideal S2x2048x8x64 .f32 :=
  transpose S2x2048x8x64 [0, 3, 1, 2]
    (Host.dotGeneral dot_S2x2048x8x64_S2x8x2048x2048_S2x8x64x2048_1_3_3_2_02_01 none v (refWeight (refExp (refScore q k))) :
      FVec Ideal S2x8x64x2048 .f32)
    transposes_S2x8x64x2048_S2x2048x8x64_0_3_1_2

/-- A score is the scaled inner product of a query with a key, -/
theorem refScore_at (q k : FVec Ideal S2x2048x8x64 .f32) (b : Fin 2) (h : Fin 8) (i n : Fin 2048) :
    refScore q k (ix4 b h i n) = (∑ e, q (ix4 b i h e) * k (ix4 b n h e)) * Ideal.ofBits FTy.f32 0x3E000000#32 := by
  pointwise [refScore]
/-- a weight is the softmax of its row there, -/
theorem refWeight_at (s : FVec Ideal S2x8x2048x2048 .f32) (b : Fin 2) (h : Fin 8) (i n : Fin 2048) :
    refWeight (refExp s) (ix4 b h i n) = weight (fun n => s (ix4 b h i n)) n := by
  pointwise [refWeight, refExp, spread]
  rfl
/-- and the result is the attention of the query row. -/
theorem refOf_at (q k v : FVec Ideal S2x2048x8x64 .f32) (b : Fin 2) (i : Fin 2048) (h : Fin 8) (d : Fin 64) :
    refOf q k v (ix4 b i h d)
      = attend (fun n => (∑ e, q (ix4 b i h e) * k (ix4 b n h e)) * Ideal.ofBits FTy.f32 0x3E000000#32)
          (fun n => v (ix4 b n h d)) := by
  pointwise [refOf]
  refine Finset.sum_congr rfl fun n _ => (mul_comm _ _).trans (congrArg (· * _) ?_)
  rw [refWeight_at]
  exact congrArg (fun s => weight s n) (funext fun n => refScore_at q k b h i n)

variable (m : (ℓ : Loc nD τ sig) → Buf (Elt Ideal) ℓ) (ρ : Dev nD → PrngReg)

/-- The reference's run ends with that result, its arguments unchanged. -/
theorem ref_run : θ_run (defs (F := Ideal)) (onTc (τ := τ) (main (F := Ideal))) ⟨m, fun _ => 0, ρ⟩ (fun r => ∀ c : Dev nD,
    r.2.mem ((c.tc : Thread nD τ).loc main_v13)
        = refOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => h c) (Cert.ReferenceIdeal.Value.run (F := Ideal) m ρ)

end Cert.RingProof

end
-- ==== Proof.Value.lean ====
/-
The kernel's sixteen results are their blocks of the reference's: device `c` attends to the key rows in the order the ring
brings them, the reference in their own, and attention does not depend on the order.
-/
module

public import proofs.«01_k».proof.Defs
public import proofs.«01_k».proof.Proof.Run
public import proofs.«01_k».proof.Proof.RefValue
public import Idealize.ShloMosaic.Lib.LayoutAt

@[expose] public section

noncomputable section

namespace Cert.RingProof

open Cert.KernelIdeal Cert.KernelIdeal.Gen
open Idealize.ShloMosaic
open Idealize.ShloMosaic.TcCoe
open Idealize.SL.Sem

/-! ## Where the ring's rows come from -/

/-- The row of the whole array that is row `x` of device `c`'s block. -/
def rowOf (c : Dev nD) (x : Fin 512) : Fin 2048 := ⟨c.val % 4 * 512 + x.val, by have := x.isLt; omega⟩

/-- Device `c`'s block of a whole array, at an index. -/
theorem block_at (X : Cert.ReferenceIdeal.S2x2048x8x64.Idx → Elt Ideal .f32) (c : Dev nD) (b : Fin 2) (i : Fin 512) (h : Fin 8) (d : Fin 64) :
    (Layout.blockN ⟨4, ![2, 512, 8, 64]⟩ ⟨4, ![2, 2048, 8, 64]⟩ (Layout.meshBlock [2, 2, 4] ![[], [2], [], []] c) X :
      FVec Ideal ⟨4, ![2, 512, 8, 64]⟩ .f32) (ix4 b i h d) = X (ix4 b (rowOf c i) h d) := by
  refine congrArg X (funext fun a => Fin.ext ?_)
  refine (Layout.TilesN.idx_val _ _ _ a).trans ?_
  fin_cases a
  · show 0 * 2 + b.val = b.val; omega
  · show (c.val / 1 % 4 * 1 + 0) * 512 + i.val = c.val % 4 * 512 + i.val; rw [Nat.div_one]; omega
  · show 0 * 8 + h.val = h.val; omega
  · show 0 * 64 + d.val = d.val; omega

/-- A device's place on its ring. -/
def place (c : Dev nD) : Fin 4 := ⟨c.val % 4, Nat.mod_lt _ (by decide)⟩

/-- `j` places back on the ring is `j` less, around. -/
theorem place_back (c : Dev nD) (j : Fin 4) : (back c j.val).val % 4 = (place c - j).val := by
  revert c j; decide +kernel

/-- The rows of the four slots, slot after slot, are all the rows of the whole array, each once. -/
def rot (c : Dev nD) : Fin 4 × Fin 512 ≃ Fin 2048 :=
  ((Equiv.subLeft (place c)).prodCongr (Equiv.refl (Fin 512))).trans col

theorem rot_eq (c : Dev nD) (j : Fin 4) (x : Fin 512) : rot c (j, x) = rowOf (back c j.val) x := by
  apply Fin.ext
  show x.val + 512 * (place c - j).val = (back c j.val).val % 4 * 512 + x.val
  rw [place_back]; omega

/-! ## The kernel's result at an index -/

variable (m : (ℓ : Loc nD τ sig) → Buf (Elt Ideal) ℓ) (ρ : Dev nD → PrngReg)

theorem qR_at (b : Fin 2) (h : Fin 8) (r : Fin 512) (e : Fin 64) : (qR b h).emb (ix4 0 r 0 e) = ix4 b r h e := by
  funext a; apply Fin.ext; rw [Rect.emb_apply]
  fin_cases a
  · show b.val + 1 * 0 = b.val; omega
  · show 0 + 1 * r.val = r.val; omega
  · show h.val + 1 * 0 = h.val; omega
  · show 0 + 1 * e.val = e.val; omega
theorem gR_at (j : Fin 4) (p : Fin 2) (b : Fin 2) (h : Fin 8) (x : Fin 512) (e : Fin 64) :
    (gR j p b h).emb (ix6 0 0 0 x 0 e) = ix6 j p b x h e := by
  funext a; apply Fin.ext; rw [Rect.emb_apply]
  fin_cases a
  · show j.val + 1 * 0 = j.val; omega
  · show p.val + 1 * 0 = p.val; omega
  · show b.val + 1 * 0 = b.val; omega
  · show 0 + 1 * x.val = x.val; omega
  · show h.val + 1 * 0 = h.val; omega
  · show 0 + 1 * e.val = e.val; omega

theorem rowIx_at (b : Fin 2) (h : Fin 8) (r : Fin 512) (d : Fin 64) : rowIx (ix4 b r h d) = ix4 0 r 0 d := by
  funext a; fin_cases a <;> rfl
theorem tail4_at (j : Fin 4) (p : Fin 2) (b : Fin 2) (h : Fin 8) (x : Fin 512) (e : Fin 64) :
    tail4 (ix6 j p b x h e) = ix4 b x h e := by
  funext a; fin_cases a <;> rfl

/-- A head of the kernel, in the staged queries and the buffer themselves. -/
theorem outOf_at (q : S2x512x8x64.Idx → Elt Ideal .f32) (g : S4x2x2x512x8x64.Idx → Elt Ideal .f32)
    (b : Fin 2) (h : Fin 8) (r : Fin 512) (d : Fin 64) :
    outOf q g (ix4 b r h d)
      = attend (fun p : Fin 4 × Fin 512 => (∑ e : Fin 64, (q (ix4 b r h e) : EReal) * g (ix6 p.1 0 b p.2 h e)) * Ideal.ofBits FTy.f32 0x3E000000#32)
          (fun p => g (ix6 p.1 1 b p.2 h d)) := by
  show head q g b h (rowIx (ix4 b r h d)) = _
  rw [rowIx_at]
  unfold head
  rw [headOf_at]
  simp only [qR_at, gR_at]

/-- Slot `j` holds rows of the whole keys and values, if every device's block is its part of them. -/
theorem ring_at (K V : Cert.ReferenceIdeal.S2x2048x8x64.Idx → Elt Ideal .f32)
    (hK : ∀ c : Dev nD, m ((c : Thread nD τ).loc main_arg1) = Layout.blockN ⟨4, ![2, 512, 8, 64]⟩ ⟨4, ![2, 2048, 8, 64]⟩ (Layout.meshBlock [2, 2, 4] ![[], [2], [], []] c) K)
    (hV : ∀ c : Dev nD, m ((c : Thread nD τ).loc main_arg2) = Layout.blockN ⟨4, ![2, 512, 8, 64]⟩ ⟨4, ![2, 2048, 8, 64]⟩ (Layout.meshBlock [2, 2, 4] ![[], [2], [], []] c) V)
    (c : Dev nD) (p : Fin 2) (n : Fin 4 × Fin 512) (b : Fin 2) (h : Fin 8) (e : Fin 64) :
    (ringBuf m ρ c : S4x2x2x512x8x64.Idx → Elt Ideal .f32) (ix6 n.1 p b n.2 h e)
      = (if p = 0 then K else V) (ix4 b (rot c n) h e) := by
  obtain ⟨j, x⟩ := n
  show plane m ρ (back c j.val) p.val (tail4 (ix6 j p b x h e)) = _
  rw [tail4_at, rot_eq]
  unfold plane
  fin_cases p
  · show kstg m ρ (back c j.val) (ix4 b x h e) = K _
    rw [kstg_eq, hK]; exact block_at K (back c j.val) b x h e
  · show vstg m ρ (back c j.val) (ix4 b x h e) = V _
    rw [vstg_eq, hV]; exact block_at V (back c j.val) b x h e

/-- The result of every device is its block of the reference's, if its arguments are its blocks of the reference's. -/
theorem out_eq (Q K V : Cert.ReferenceIdeal.S2x2048x8x64.Idx → Elt Ideal .f32)
    (hQ : ∀ c : Dev nD, m ((c : Thread nD τ).loc main_arg0) = Layout.blockN ⟨4, ![2, 512, 8, 64]⟩ ⟨4, ![2, 2048, 8, 64]⟩ (Layout.meshBlock [2, 2, 4] ![[], [2], [], []] c) Q)
    (hK : ∀ c : Dev nD, m ((c : Thread nD τ).loc main_arg1) = Layout.blockN ⟨4, ![2, 512, 8, 64]⟩ ⟨4, ![2, 2048, 8, 64]⟩ (Layout.meshBlock [2, 2, 4] ![[], [2], [], []] c) K)
    (hV : ∀ c : Dev nD, m ((c : Thread nD τ).loc main_arg2) = Layout.blockN ⟨4, ![2, 512, 8, 64]⟩ ⟨4, ![2, 2048, 8, 64]⟩ (Layout.meshBlock [2, 2, 4] ![[], [2], [], []] c) V)
    (c : Dev nD) :
    outAt m ρ c = Layout.blockN ⟨4, ![2, 512, 8, 64]⟩ ⟨4, ![2, 2048, 8, 64]⟩ (Layout.meshBlock [2, 2, 4] ![[], [2], [], []] c) (refOf Q K V) := by
  funext y
  idx_vars y
  refine Eq.trans ?_ (block_at (refOf Q K V) c y0 y1 y2 y3).symm
  rw [refOf_at, ← attend_comp (rot c)]
  refine (outOf_at (qstg m ρ c) (ringBuf m ρ c) y0 y2 y1 y3).trans ?_
  have hq : ∀ e : Fin 64, qstg m ρ c (ix4 y0 y1 y2 e) = Q (ix4 y0 (rowOf c y1) y2 e) := fun e => by
    rw [qstg_eq, hQ]; exact block_at Q c y0 y1 y2 e
  refine congrArg₂ attend (funext fun n => congrArg (· * _) (Finset.sum_congr rfl fun e _ => ?_))
    (funext fun n => ring_at m ρ K V hK hV c 1 n y0 y2 y3)
  exact congrArg₂ (· * ·) (hq e) (ring_at m ρ K V hK hV c 0 n y0 y2 e)

/-- The kernel computes its blocks of the reference's attention. -/
theorem algebraic : Cert.algebraic_KernelIdeal_ReferenceIdeal := fun m ρ m' ρ' _ h =>
  ⟨refOf (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2)),
    (θ_run Cert.KernelIdeal.defs _ _).mono
      (fun _ hr c => ⟨(hr.1 c).1.trans (out_eq m ρ _ _ _ (fun c => (h c).1) (fun c => (h c).2.1) (fun c => (h c).2.2) c), (hr.1 c).2⟩)
      (run (F := Ideal) m ρ),
    (θ_run Cert.ReferenceIdeal.defs _ _).mono (fun _ hr => hr 0) (ref_run m' ρ')⟩

end Cert.RingProof

end
-- ==== Proof.lean ====
/-
The claims about the ring attention kernel, put together: every program runs to its end and leaves its arguments and its
semaphores as they were, and the kernel on sixteen devices computes its blocks of the reference's attention.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic

/-- All the claims: the three frames, the idealization that rewrote nothing, and the value. -/
theorem claim : Cert.Claim :=
  ⟨Cert.Kernel.Gen.facts, Cert.KernelIdeal.Gen.facts, Cert.ReferenceIdeal.Gen.facts,
    Cert.RingProof.frame_kernel, Cert.RingProof.frame_kernelIdeal, Cert.RingProof.frame_referenceIdeal, trivial,
    Cert.RingProof.algebraic⟩

end Cert.Proof

end
